-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x12x2048x64 : Shape := ⟨4, ![1, 12, 2048, 64]⟩
abbrev S1x12x2048x16 : Shape := ⟨4, ![1, 12, 2048, 16]⟩
abbrev S_ : Shape := ⟨0, ![]⟩

class Facts : Prop where
  bcast_S_S1x12x2048x64 : S_.BroadcastsInDim S1x12x2048x64 (![] : Fin 0 → Fin S1x12x2048x64.rank)

variable [Facts]

def fn {F : FTy → Type} [FloatOps F] (main_arg0 : FVec F S1x12x2048x64 .f32) (main_arg1 : FVec F S1x12x2048x64 .f32) (main_arg2 : FVec F S1x12x2048x64 .f32) (main_arg3 : IVec S1x12x2048x16 32) : IVec S1x12x2048x64 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_v3 : FVec F S1x12x2048x64 .f32 := Host.absf main_arg1
  let main_cst_0 : FVec F S_ .f32 := constant S_ .f32 0x7F800000#32
  let main_v4 : FVec F S1x12x2048x64 .f32 := broadcastInDim S1x12x2048x64 ![] bcast_S_S1x12x2048x64 main_cst_0
  let main_v5 : IVec S1x12x2048x64 1 := cmpf .olt main_v3 main_v4
  let main_v6 : IVec S1x12x2048x64 1 := andi main_v2 main_v5
  main_v6
-- ==== Kernel.lean ====
abbrev S1x12x2048x64 : Shape := ⟨4, ![1, 12, 2048, 64]⟩
abbrev S1x12x2048x16 : Shape := ⟨4, ![1, 12, 2048, 16]⟩
abbrev S12x2048x64 : Shape := ⟨3, ![12, 2048, 64]⟩
abbrev S12x2048x16 : Shape := ⟨3, ![12, 2048, 16]⟩
abbrev S1x512x16 : Shape := ⟨3, ![1, 512, 16]⟩
abbrev S1x512x64 : Shape := ⟨3, ![1, 512, 64]⟩
abbrev S1x2048x64 : Shape := ⟨3, ![1, 2048, 64]⟩
abbrev S512x64 : Shape := ⟨2, ![512, 64]⟩
abbrev S512x16 : Shape := ⟨2, ![512, 16]⟩
abbrev S8x512 : Shape := ⟨2, ![8, 512]⟩
abbrev S512x1 : Shape := ⟨2, ![512, 1]⟩
abbrev S512x8 : Shape := ⟨2, ![512, 8]⟩
abbrev S512x4 : Shape := ⟨2, ![512, 4]⟩
abbrev S512x2 : Shape := ⟨2, ![512, 2]⟩
abbrev S512x512 : Shape := ⟨2, ![512, 512]⟩
abbrev S512 : Shape := ⟨1, ![512]⟩

abbrev nBuf : Space → Nat
  | .hbm => 13
  | .vmem => 10
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x12x2048x16, .i32⟩
  | .hbm, ⟨4, _⟩ => ⟨S12x2048x64, .f32⟩
  | .hbm, ⟨5, _⟩ => ⟨S12x2048x64, .bf16⟩
  | .hbm, ⟨6, _⟩ => ⟨S12x2048x64, .f32⟩
  | .hbm, ⟨7, _⟩ => ⟨S12x2048x64, .bf16⟩
  | .hbm, ⟨8, _⟩ => ⟨S12x2048x64, .f32⟩
  | .hbm, ⟨9, _⟩ => ⟨S12x2048x64, .bf16⟩
  | .hbm, ⟨10, _⟩ => ⟨S12x2048x16, .i32⟩
  | .hbm, ⟨11, _⟩ => ⟨S12x2048x64, .f32⟩
  | .hbm, ⟨12, _⟩ => ⟨S1x12x2048x64, .f32⟩
  | .local _ .vmem, ⟨0, _⟩ => ⟨S1x512x16, .i32⟩
  | .local _ .vmem, ⟨1, _⟩ => ⟨S1x512x16, .i32⟩
  | .local _ .vmem, ⟨2, _⟩ => ⟨S1x512x64, .bf16⟩
  | .local _ .vmem, ⟨3, _⟩ => ⟨S1x512x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x512x64, .f32⟩
  | .local _ .vmem, ⟨9, _⟩ => ⟨S1x512x64, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def k0_off1 (i : grid0.Coords) : Fin 3 → Nat :=
  let c0_19 : Index := 0#32
  let arg1 : BitVec 32 := BitVec.ofNat 32 (i 1).val
  let c512_i32_18 : BitVec 32 := 512#32
  let v85 : BitVec 32 := Scalar.muli arg1 c512_i32_18
  let v86 : Index := Scalar.indexCast v85
  let c0_20 : Index := 0#32
  ![0, v86.toNat, 0]
@[reducible] def k0_t1_loop (i : grid0.Coords) : Scf.Loop 32 :=
  let c0_i32_34 : BitVec 32 := 0#32
  let arg1 : BitVec 32 := BitVec.ofNat 32 (i 1).val
  let v120 : BitVec 32 := Scalar.subi arg1 c0_i32_34
  let c1_i32_35 : BitVec 32 := 1#32
  let v122 : BitVec 32 := Scalar.divsi v120 c1_i32_35
  let v123 : BitVec 32 := Scalar.muli v122 c1_i32_35
  let v124 : BitVec 32 := Scalar.addi c0_i32_34 v123
  let c1_i32_36 : BitVec 32 := 1#32
  ⟨c0_i32_34, v124, c1_i32_36⟩
def k0_off2 (i : grid0.Coords) (k0_t1 : Fin (k0_t1_loop i).trips) : Fin 3 → Nat :=
  let c0_42 : Index := 0#32
  let c0_i32_34 : BitVec 32 := 0#32
  let c1_i32_36 : BitVec 32 := 1#32
  let arg7 : BitVec 32 := Scf.iv c0_i32_34 c1_i32_36 k0_t1
  let c512_i32_41 : BitVec 32 := 512#32
  let v132 : BitVec 32 := Scalar.muli arg7 c512_i32_41
  let v133 : Index := Scalar.indexCast v132
  let c0_43 : Index := 0#32
  ![0, v133.toNat, 0]
@[reducible] def k0_t2_loop (i : grid0.Coords) : Scf.Loop 32 :=
  let c0_i32_34 : BitVec 32 := 0#32
  let arg1 : BitVec 32 := BitVec.ofNat 32 (i 1).val
  let v120 : BitVec 32 := Scalar.subi arg1 c0_i32_34
  let c1_i32_35 : BitVec 32 := 1#32
  let v122 : BitVec 32 := Scalar.divsi v120 c1_i32_35
  let v123 : BitVec 32 := Scalar.muli v122 c1_i32_35
  let v124 : BitVec 32 := Scalar.addi c0_i32_34 v123
  let v121 : BitVec 32 := Scalar.addi c0_i32_34 v120
  let c1_i32_37 : BitVec 32 := 1#32
  ⟨v124, v121, c1_i32_37⟩
def k0_off3 (i : grid0.Coords) (k0_t2 : Fin (k0_t2_loop i).trips) : Fin 3 → Nat :=
  let c0_42 : Index := 0#32
  let c0_i32_34 : BitVec 32 := 0#32
  let arg1 : BitVec 32 := BitVec.ofNat 32 (i 1).val
  let v120 : BitVec 32 := Scalar.subi arg1 c0_i32_34
  let c1_i32_35 : BitVec 32 := 1#32
  let v122 : BitVec 32 := Scalar.divsi v120 c1_i32_35
  let v123 : BitVec 32 := Scalar.muli v122 c1_i32_35
  let v124 : BitVec 32 := Scalar.addi c0_i32_34 v123
  let c1_i32_37 : BitVec 32 := 1#32
  let arg7 : BitVec 32 := Scf.iv v124 c1_i32_37 k0_t2
  let c512_i32_41 : BitVec 32 := 512#32
  let v132 : BitVec 32 := Scalar.muli arg7 c512_i32_41
  let v133 : Index := Scalar.indexCast v132
  let c0_43 : Index := 0#32
  ![0, v133.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x12x2048x64 : Shape := ⟨4, ![1, 12, 2048, 64]⟩
abbrev S1x12x2048x16 : Shape := ⟨4, ![1, 12, 2048, 16]⟩
abbrev S1x12x2048x2048 : Shape := ⟨4, ![1, 12, 2048, 2048]⟩
abbrev S_ : Shape := ⟨0, ![]⟩
abbrev S1x12x2048x16x1 : Shape := ⟨5, ![1, 12, 2048, 16, 1]⟩
abbrev S1x1x1x1x32 : Shape := ⟨5, ![1, 1, 1, 1, 32]⟩
abbrev S1x12x2048x16x32 : Shape := ⟨5, ![1, 12, 2048, 16, 32]⟩
abbrev S1x12x2048x32 : Shape := ⟨4, ![1, 12, 2048, 32]⟩
abbrev S1x12x2048x32x64 : Shape := ⟨5, ![1, 12, 2048, 32, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x12x2048x16, .i32⟩
  | .hbm, ⟨4, _⟩ => ⟨S1x12x2048x2048, .f32⟩
  | .hbm, ⟨5, _⟩ => ⟨S_, .f32⟩
  | .hbm, ⟨6, _⟩ => ⟨S1x12x2048x2048, .f32⟩
  | .hbm, ⟨7, _⟩ => ⟨S1x12x2048x2048, .f32⟩
  | .hbm, ⟨8, _⟩ => ⟨S1x12x2048x16x1, .i32⟩
  | .hbm, ⟨9, _⟩ => ⟨S1x1x1x1x32, .i32⟩
  | .hbm, ⟨10, _⟩ => ⟨S1x12x2048x16x32, .i32⟩
  | .hbm, ⟨11, _⟩ => ⟨S1x12x2048x16x32, .i32⟩
  | .hbm, ⟨12, _⟩ => ⟨S1x12x2048x16x32, .i1⟩
  | .hbm, ⟨13, _⟩ => ⟨S1x12x2048x16x32, .f32⟩
  | .hbm, ⟨14, _⟩ => ⟨S_, .f32⟩
  | .hbm, ⟨15, _⟩ => ⟨S1x12x2048x32, .f32⟩
  | .hbm, ⟨16, _⟩ => ⟨S_, .f32⟩
  | .hbm, ⟨17, _⟩ => ⟨S1x12x2048x32, .f32⟩
  | .hbm, ⟨18, _⟩ => ⟨S1x12x2048x32, .i1⟩
  | .hbm, ⟨19, _⟩ => ⟨S1x12x2048x32x64, .i1⟩
  | .hbm, ⟨20, _⟩ => ⟨S1x12x2048x2048, .i1⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i32⟩
  | .hbm, ⟨29, _⟩ => ⟨S_, .i32⟩
  | .hbm, ⟨30, _⟩ => ⟨S1x2048, .i32⟩
  | .hbm, ⟨31, _⟩ => ⟨S1x2048, .i32⟩
  | .hbm, ⟨32, _⟩ => ⟨S1x2048, .i32⟩
  | .hbm, ⟨33, _⟩ => ⟨S_, .i32⟩
  | .hbm, ⟨34, _⟩ => ⟨S1x2048, .i32⟩
  | .hbm, ⟨35, _⟩ => ⟨S1x2048, .i1⟩
  | .hbm, ⟨36, _⟩ => ⟨S1x2048, .i32⟩
  | .hbm, ⟨37, _⟩ => ⟨S1x2048, .i32⟩
  | .hbm, ⟨38, _⟩ => ⟨S_, .i32⟩
  | .hbm, ⟨39, _⟩ => ⟨S1x2048, .i32⟩
  | .hbm, ⟨40, _⟩ => ⟨S1x2048, .i1⟩
  | .hbm, ⟨41, _⟩ => ⟨S1x2048, .i1⟩
  | .hbm, ⟨42, _⟩ => ⟨S_, .i32⟩
  | .hbm, ⟨43, _⟩ => ⟨S1x2048, .i32⟩
  | .hbm, ⟨44, _⟩ => ⟨S1x2048, .i32⟩
  | .hbm, ⟨45, _⟩ => ⟨S1x2048, .i32⟩
  | .hbm, ⟨46, _⟩ => ⟨S_, .i32⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S2048x1, .i32⟩
  | .hbm, ⟨51, _⟩ => ⟨S_, .i32⟩
  | .hbm, ⟨52, _⟩ => ⟨S2048x1, .i32⟩
  | .hbm, ⟨53, _⟩ => ⟨S2048x1, .i1⟩
  | .hbm, ⟨54, _⟩ => ⟨S2048x1, .i32⟩
  | .hbm, ⟨55, _⟩ => ⟨S2048x1, .i32⟩
  | .hbm, ⟨56, _⟩ => ⟨S_, .i32⟩
  | .hbm, ⟨57, _⟩ => ⟨S2048x1, .i32⟩
  | .hbm, ⟨58, _⟩ => ⟨S2048x1, .i1⟩
  | .hbm, ⟨59, _⟩ => ⟨S2048x1, .i1⟩
  | .hbm, ⟨60, _⟩ => ⟨S_, .i32⟩
  | .hbm, ⟨61, _⟩ => ⟨S2048x1, .i32⟩
  | .hbm, ⟨62, _⟩ => ⟨S2048x1, .i32⟩
  | .hbm, ⟨63, _⟩ => ⟨S2048x1, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S1x1x2048x2048, .i1⟩
  | .hbm, ⟨68, _⟩ => ⟨S1x12x2048x2048, .i1⟩
  | .hbm, ⟨69, _⟩ => ⟨S1x12x2048x2048, .i1⟩
  | .hbm, ⟨70, _⟩ => ⟨S1x1x2048x2048, .i1⟩
  | .hbm, ⟨71, _⟩ => ⟨S1x12x2048x2048, .i1⟩
  | .hbm, ⟨72, _⟩ => ⟨S1x12x2048x2048, .i1⟩
  | .hbm, ⟨73, _⟩ => ⟨S_, .f32⟩
  | .hbm, ⟨74, _⟩ => ⟨S1x12x2048x2048, .f32⟩
  | .hbm, ⟨75, _⟩ => ⟨S1x12x2048x2048, .f32⟩
  | .hbm, ⟨76, _⟩ => ⟨S_, .f32⟩
  | .hbm, ⟨77, _⟩ => ⟨S1x12x2048, .f32⟩
  | .hbm, ⟨78, _⟩ => ⟨S_, .f32⟩
  | .hbm, ⟨79, _⟩ => ⟨S1x12x2048, .f32⟩
  | .hbm, ⟨80, _⟩ => ⟨S1x12x2048, .f32⟩
  | .hbm, ⟨81, _⟩ => ⟨S1x12x2048x1, .f32⟩
  | .hbm, ⟨82, _⟩ => ⟨S1x12x2048x2048, .f32⟩
  | .hbm, ⟨83, _⟩ => ⟨S1x12x2048x2048, .f32⟩
  | .hbm, ⟨84, _⟩ => ⟨S1x12x2048x2048, .f32⟩
  | .hbm, ⟨85, _⟩ => ⟨S_, .f32⟩
  | .hbm, ⟨86, _⟩ => ⟨S1x12x2048, .f32⟩
  | .hbm, ⟨87, _⟩ => ⟨S1x12x2048x1, .f32⟩
  | .hbm, ⟨88, _⟩ => ⟨S1x12x2048x2048, .f32⟩
  | .hbm, ⟨89, _⟩ => ⟨S1x12x2048x2048, .f32⟩
  | .hbm, ⟨90, _⟩ => ⟨S1x12x2048x64, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v16 : Ref sig .tc := ⟨.hbm, 45, rfl⟩
abbrev main_c_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_3 : Ref sig .tc := ⟨.hbm, 73, rfl⟩
abbrev main_call3_v0 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩
abbrev main_cst_5 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_6 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩

abbrev nD : Nat := 1
abbrev τ : Topo := Topo.v7x

variable {F : FTy → Type} [FloatOps F]
-- ==== Proof.Spec.lean ====
/- Block-sparse causal attention as one formula over ideal values: which keys a query may see, its scores, and the
   softmax-weighted sum of the values. Kernel and reference are both shown to compute it. -/
module

public import Idealize.ShloMosaic.PureOps.Ideal
public import Idealize.ShloMosaic.Lib.IdealHost

@[expose] public section

noncomputable section

namespace Cert.Spec

open Idealize.ShloMosaic
open scoped Classical

/-- The scale of the scores, one eighth, as the float constant both programs print. -/
def eighth : EReal := Ideal.ofBits .f32 0x3E000000#32

/-- Query `q` sees key `k`: the key's block of 64 is one of the sixteen chosen for the query, or the query's own, and
    the key is not after the query. -/
def Allowed (B : Fin 16 → BitVec 32) (q k : ℕ) : Prop :=
  ((∃ s, B s = BitVec.ofNat 32 (k / 64)) ∨ k / 64 = q / 64) ∧ k ≤ q

/-- The masked score of query `q` (row `Q`) against key `k`. -/
def score (Q : Fin 64 → EReal) (K : Fin 2048 → Fin 64 → EReal) (B : Fin 16 → BitVec 32) (q k : Fin 2048) : EReal :=
  if Allowed B q.val k.val then (∑ d, Q d * K k d) * eighth else ⊥

/-- The softmax of a row of scores, applied to a column of values. -/
def softmaxDot {ι : Type} [Fintype ι] (s v : ι → EReal) : EReal :=
  ∑ k, Ideal.div (Ideal.exp (s k - Finset.univ.sup s)) (∑ k', Ideal.exp (s k' - Finset.univ.sup s)) * v k

/-- One entry of the attention output. -/
def attention (Q : Fin 64 → EReal) (K : Fin 2048 → Fin 64 → EReal) (V : Fin 2048 → EReal)
    (B : Fin 16 → BitVec 32) (q : Fin 2048) : EReal :=
  softmaxDot (fun k => score Q K B q k) V

/-- The word of minus infinity. -/
theorem ofBits_neg_inf : Ideal.ofBits .f32 0xFF800000#32 = ⊥ := by simp [Ideal.ofBits, Ideal.ieee]

/-- The word of plus infinity. -/
theorem ofBits_inf : Ideal.ofBits .f32 0x7F800000#32 = ⊤ := by simp [Ideal.ofBits, Ideal.ieee]

/-- The scale is the real number one eighth. -/
theorem eighth_eq : eighth = ((1 / 8 : ℝ) : EReal) := by
  unfold eighth
  simp [Ideal.ofBits, Ideal.ieee]
  rw [← EReal.coe_mul]
  norm_num

/-- The narrow float constant 0.125 is the same number. -/
theorem ofBits_eighth_narrow : Ideal.ofBits .bf16 0x3E00#16 = eighth := by
  rw [eighth_eq]
  simp [Ideal.ofBits, Ideal.ieee]
  rw [← EReal.coe_mul]
  norm_num

/-- A fold of maxima from minus infinity is the supremum. -/
theorem fold_max_eq_sup {ι : Type} [Fintype ι] (f : ι → EReal) :
    Finset.univ.fold max ⊥ f = Finset.univ.sup f := rfl

end Cert.Spec

end
-- ==== Proof.Words.lean ====
/- Facts about 32-bit words that kernel and reference share: division by 64 rounded towards minus infinity of a
   position, shifts, and single bits of the selection word. -/
module

public import Idealize.ShloMosaic.PureOps
public import Idealize.ShloMosaic.Lib.Pointwise
public import Idealize.ShloMosaic.Lib.WordArith
public import Idealize.ShloMosaic.Lib.WordCmp

@[expose] public section

set_option maxRecDepth 16384

namespace Cert.Words

open Idealize.ShloMosaic Idealize.ShloMosaic.WordCmp

/-- The kernel's spelling of `x // 64`: the truncated quotient, less one where signs differ and a remainder is left. -/
abbrev kernelDiv (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- The reference's spelling of `x // 64`, with the sign function. -/
abbrev hostDiv (x : BitVec 32) : BitVec 32 :=
  Scalar.select
    (IntOp.andi
      (IntOp.cmpi .ne (if x = 0 then (0 : BitVec 32) else if x.msb = true then -1 else 1)
        (if (64#32 : BitVec 32) = 0 then (0 : BitVec 32) else if (64#32 : BitVec 32).msb = true then -1 else 1))
      (IntOp.cmpi .ne (IntOp.remsi .host x 64#32) 0#32))
    (IntOp.subi (IntOp.divsi .host x 64#32) 1#32)
    (IntOp.divsi .host x 64#32)

/-- For a position below 2048 the kernel's quotient is the natural one. -/
theorem kernelDiv_fin : ∀ n : Fin 2048, kernelDiv (BitVec.ofNat 32 n.val) = BitVec.ofNat 32 (n.val / 64) := by
  decide +kernel

/-- For a position below 2048 the reference's quotient is the natural one. -/
theorem hostDiv_fin : ∀ n : Fin 2048, hostDiv (BitVec.ofNat 32 n.val) = BitVec.ofNat 32 (n.val / 64) := by
  decide +kernel

/-- For a position below 2048 the kernel's quotient is the natural one. -/
theorem kernelDiv_ofNat (n : ℕ) (h : n < 2048) : kernelDiv (BitVec.ofNat 32 n) = BitVec.ofNat 32 (n / 64) :=
  kernelDiv_fin ⟨n, h⟩

/-- Small numbers are told apart by their words. -/
theorem ofNat_inj {a b : ℕ} (ha : a < 2 ^ 31) (hb : b < 2 ^ 31) : BitVec.ofNat 32 a = BitVec.ofNat 32 b ↔ a = b := by
  rw [← BitVec.toNat_inj, BitVec.toNat_ofNat, BitVec.toNat_ofNat, Nat.mod_eq_of_lt (by omega), Nat.mod_eq_of_lt (by omega)]

/-- Bit `n` of `1 << x` is set exactly when `x` is `n`. -/
theorem getLsbD_shli_one (x : BitVec 32) (n : ℕ) (hn : n < 32) :
    (IntOp.shli .vector 1#32 x).getLsbD n = decide (x = BitVec.ofNat 32 n) := by
  unfold IntOp.shli
  have e : (x = BitVec.ofNat 32 n) ↔ x.toNat = n := by
    rw [← BitVec.toNat_inj, BitVec.toNat_ofNat, Nat.mod_eq_of_lt (by omega)]
  simp only [e]
  split
  · rename_i h
    simp only [BitVec.shiftLeft_eq', BitVec.getLsbD_shiftLeft, BitVec.getLsbD_one]
    rw [Bool.eq_iff_iff]
    simp only [Bool.and_eq_true, decide_eq_true_eq, Bool.not_eq_true']
    simp
    omega
  · rename_i h
    have : x.toNat ≠ n := by omega
    simp [IntOp.cornerWord, this]

/-- Shifting right by a number below 32 moves the bits down. -/
theorem getLsbD_shrui_ofNat (w : BitVec 32) (a n : ℕ) (ha : a < 32) :
    (IntOp.shrui .vector w (BitVec.ofNat 32 a)).getLsbD n = w.getLsbD (a + n) := by
  have e : (BitVec.ofNat 32 a).toNat = a := by rw [BitVec.toNat_ofNat, Nat.mod_eq_of_lt (by omega)]
  unfold IntOp.shrui
  rw [if_pos (by omega), BitVec.ushiftRight_eq', BitVec.getLsbD_ushiftRight, e]

/-- The kernel's test of one bit of a word: shift the window of tile `t` down, then bit `b` of it, and mask with one. -/
theorem bitTest (w : BitVec 32) (t : ℕ) (ht : t < 4) (b : Fin 8) :
    IntOp.cmpi .ne
      (IntOp.andi
        (IntOp.shrui .vector (IntOp.shrui .vector w (Scalar.muli (BitVec.ofNat 32 t) 8#32)) (BitVec.ofNat 32 b.val))
        1#32) 0#32 = BitVec.ofBool (w.getLsbD (8 * t + b.val)) := by
  have e : Scalar.muli (BitVec.ofNat 32 t) 8#32 = BitVec.ofNat 32 (8 * t) := by
    interval_cases t <;> rfl
  rw [e, ← getLsbD_shrui_ofNat w (8 * t) b.val (by omega)]
  generalize IntOp.shrui .vector w (BitVec.ofNat 32 (8 * t)) = u
  have h := getLsbD_shrui_ofNat u b.val 0 (by omega)
  rw [Nat.add_zero] at h
  rw [← h]
  generalize IntOp.shrui .vector u (BitVec.ofNat 32 b.val) = x
  rw [cmpi_ne_eq]
  congr 1
  unfold IntOp.andi
  have hx : x &&& 1#32 = if x.getLsbD 0 then 1#32 else 0#32 := by
    apply BitVec.eq_of_getLsbD_eq
    intro i hi
    rw [BitVec.getLsbD_and, BitVec.getLsbD_one]
    by_cases h0 : i = 0
    · subst h0; cases hb : x.getLsbD 0 <;> simp [hb]
    · cases hb : x.getLsbD 0 <;> simp [h0]
  rw [hx]
  cases x.getLsbD 0 <;> simp

/-- The kernel's selection word of a row: its sixteen one-bit words joined as a tree, and the word of its own block. -/
abbrev tree (x : Fin 16 → BitVec 32) (y : BitVec 32) : BitVec 32 :=
  IntOp.ori
    (IntOp.ori
      (IntOp.ori (IntOp.ori (IntOp.ori (x 0) (x 8)) (IntOp.ori (x 4) (x 12)))
        (IntOp.ori (IntOp.ori (x 2) (x 10)) (IntOp.ori (x 6) (x 14))))
      (IntOp.ori (IntOp.ori (IntOp.ori (x 1) (x 9)) (IntOp.ori (x 5) (x 13)))
        (IntOp.ori (IntOp.ori (x 3) (x 11)) (IntOp.ori (x 7) (x 15))))) y

/-- A bit of the selection word is set when it is set in one of the joined words. -/
theorem getLsbD_tree (x : Fin 16 → BitVec 32) (y : BitVec 32) (n : ℕ) :
    (tree x y).getLsbD n = true ↔ (∃ s, (x s).getLsbD n = true) ∨ y.getLsbD n = true := by
  simp only [tree, IntOp.ori, BitVec.getLsbD_or, Bool.or_eq_true]
  constructor
  · rintro (h | h)
    · left
      rcases h with ((((h | h) | h | h) | (h | h) | h | h) | ((h | h) | h | h) | (h | h) | h | h)
      all_goals exact ⟨_, h⟩
    · exact Or.inr h
  · rintro (⟨s, h⟩ | h)
    · left
      fin_cases s <;> simp only [Fin.reduceFinMk, Fin.zero_eta, Fin.mk_one, Fin.isValue] at h <;> simp [h]
    · exact Or.inr h

end Cert.Words
-- ==== Proof.Payload.lean ====
/- The kernel's vector computations read at an index: scaled queries, selection bits, masked scores of a tile, and one
   step of the running maximum, sum and weighted values. -/
module

public import proofs.«01_k».proof.Proof.Gen.KernelIdeal.Frame
public import proofs.«01_k».proof.Proof.Spec
public import proofs.«01_k».proof.Proof.Words
public import Idealize.ShloMosaic.Lib.Pipeline.ValueKit
public import Idealize.ShloMosaic.Lib.Pointwise

@[expose] public section

set_option maxRecDepth 16384

noncomputable section

namespace Cert.KernelIdeal.Payload

open Cert.KernelIdeal Cert.KernelIdeal.Gen
open Idealize.ShloMosaic Idealize.ShloMosaic.TcCoe Idealize.SL.Sem Idealize.ShloMosaic.WordCmp
open Cert.Spec Cert.Words

/-- The lane numbers 0 to 7, by which the kernel shifts the selection word. -/
abbrev lanes : IVec S512x8 32 := iota Kind.tc S512x8 32 [1] iota_S512x8_d1_w32

/-- The named mask constant is minus infinity. -/
theorem mask_eq : (Named.named κ "mask" 0xF149F2CA#32 : Ideal .f32) = (⊥ : EReal) :=
  IdealRules.named_const.ideal_named_scalar _ _ _ _ rfl

/-- A query row, scaled. -/
theorem scaled_at (x : FVec Ideal S1x512x64 .bf16) (r : Fin 512) (d : Fin 64) :
    k0_pay2 x (ix2 r d) = (x (ix3 0 r d) * eighth : EReal) := by
  rw [← ofBits_eighth_narrow]
  pointwise [k0_pay2]

/-- The table that spreads a block's bias over its 64 columns. -/
theorem spread_at (b : Fin 8) (c : Fin 512) :
    (k0_pay3 (F := Ideal)) (ix2 b c) = (if c.val / 64 = b.val then 1 else 0 : EReal) := by
  pointwise [k0_pay3]
  have h : kernelDiv (BitVec.ofNat 32 c.val) = BitVec.ofNat 32 (c.val / 64) := kernelDiv_ofNat _ (by omega)
  show (FloatOps.sitofp .f32 (BitVec.setWidth 32 (IntOp.cmpi .eq (kernelDiv (BitVec.ofNat 32 c.val)) (BitVec.ofNat 32 b.val))) : Ideal .f32) = _
  rw [h, cmpi_eq_eq]
  simp only [ofNat_inj (show c.val / 64 < 2 ^ 31 by omega) (show b.val < 2 ^ 31 by omega)]
  show (((BitVec.setWidth 32 (BitVec.ofBool (decide (c.val / 64 = b.val)))).toInt : ℝ) : EReal) = _
  by_cases e : c.val / 64 = b.val
  · simp [e]
  · simp [e]

/-- The position of a row of the query tile. -/
theorem position_at (i : grid0.Coords) (r : Fin 512) : k0_pay4 i (ix2 r 0) = BitVec.ofNat 32 (512 * (i 1).val + r.val) := by
  pointwise [k0_pay4]
  have hi : (i 1).val < 4 := (i 1).isLt
  apply BitVec.eq_of_toNat_eq
  simp [IntOp.addi, Scalar.muli, IntOp.muli]
  omega

/-- The selection word of a row: the bits of its chosen blocks and of its own. -/
theorem bits_at (i : grid0.Coords) (x : IVec S1x512x16 32) (r : Fin 512) (n : ℕ) (hn : n < 32) :
    (k0_pay6 (k0_pay4 i) (k0_pay5 (F := Ideal) x) (ix2 r 0)).getLsbD n = true
      ↔ (∃ s : Fin 16, x (ix3 0 r s) = BitVec.ofNat 32 n) ∨ n = (512 * (i 1).val + r.val) / 64 := by
  have hi : (i 1).val < 4 := (i 1).isLt
  have h5 : ∀ s : Fin 16, k0_pay5 (F := Ideal) x (ix2 r s) = IntOp.shli .vector 1#32 (x (ix3 0 r s)) := fun s => by
    pointwise [k0_pay5]
  have hd : kernelDiv (k0_pay4 i (ix2 r 0)) = BitVec.ofNat 32 ((512 * (i 1).val + r.val) / 64) := by
    rw [position_at]
    exact kernelDiv_ofNat _ (by omega)
  have h6 : k0_pay6 (k0_pay4 i) (k0_pay5 (F := Ideal) x) (ix2 r 0)
      = tree (fun s => k0_pay5 (F := Ideal) x (ix2 r s)) (IntOp.shli .vector 1#32 (kernelDiv (k0_pay4 i (ix2 r 0)))) := by
    generalize k0_pay4 i = p
    generalize k0_pay5 (F := Ideal) x = y
    pointwise [k0_pay6]
    try rfl
  rw [h6]
  refine (getLsbD_tree (fun s => k0_pay5 (F := Ideal) x (ix2 r s)) _ n).trans ?_
  rw [hd]
  simp only [h5, getLsbD_shli_one _ n hn, decide_eq_true_eq]
  rw [ofNat_inj (by omega) (by omega)]
  constructor
  · rintro (h | h)
    · exact Or.inl h
    · exact Or.inr h.symm
  · rintro (h | h)
    · exact Or.inl h
    · exact Or.inr h.symm

/-- The causal triangle of the diagonal tile. -/
theorem triangle_at (r c : Fin 512) : k0_pay7 (ix2 r c) = BitVec.ofBool (decide (c.val ≤ r.val)) := by
  pointwise [k0_pay7]
  rw [cmpi_sge_ofNat (by omega) (by omega)]

/-- The diagonal tile's products. -/
theorem products_at (q : FVec Ideal S512x64 .bf16) (k : FVec Ideal S1x512x64 .bf16) (r c : Fin 512) :
    k0_pay8 q k (ix2 r c) = (∑ d : Fin 64, q (ix2 r d) * k (ix3 0 c d) : EReal) := by
  pointwise [k0_pay8]

/-- Spreading eight biases, of which each is zero or minus infinity, picks the one of the column's block. -/
theorem bias_sum (p : Fin 8 → Bool) (c : Fin 512) :
    (∑ b : Fin 8, Scalar.select (BitVec.ofBool (p b)) (0 : EReal) ⊥ * (if c.val / 64 = b.val then 1 else 0 : EReal))
      = if p ⟨c.val / 64, by omega⟩ = true then 0 else ⊥ := by
  rw [Finset.sum_eq_single (⟨c.val / 64, by omega⟩ : Fin 8)]
  · rw [if_pos rfl, mul_one, select_ofBool]
  · intro b _ hb
    rw [if_neg fun h => hb (Fin.ext h.symm), mul_zero]
  · intro h
    exact absurd (Finset.mem_univ _) h

/-- A score plus the bias of its block. -/
theorem add_bias (x : EReal) (p : Prop) [Decidable p] : x + (if p then 0 else ⊥) = if p then x else ⊥ := by
  split_ifs
  · exact add_zero x
  · exact EReal.add_bot x

/-- The diagonal tile's masked scores. -/
theorem diagonal_at (t : ℕ) (ht : t < 4) (w : IVec S512x1 32) (s : FVec Ideal S512x512 .f32) (r c : Fin 512) :
    k0_pay9 (BitVec.ofNat 32 t) (k0_pay3 (F := Ideal)) w lanes k0_pay7 s (ix2 r c)
      = (if c.val ≤ r.val ∧ (w (ix2 r 0)).getLsbD (8 * t + c.val / 64) = true then s (ix2 r c) else ⊥ : EReal) := by
  have h : k0_pay9 (BitVec.ofNat 32 t) (k0_pay3 (F := Ideal)) w lanes k0_pay7 s (ix2 r c)
      = (Scalar.select (k0_pay7 (ix2 r c)) (s (ix2 r c) + ∑ b : Fin 8,
          Scalar.select (BitVec.ofBool ((w (ix2 r 0)).getLsbD (8 * t + b.val))) (0 : EReal) ⊥
            * k0_pay3 (F := Ideal) (ix2 b c)) ⊥ : EReal) := by
    simp only [← bitTest _ t ht]
    rw [← mask_eq]
    generalize k0_pay7 = u
    generalize k0_pay3 (F := Ideal) = e
    pointwise [k0_pay9]
  rw [h, triangle_at, select_ofBool]
  simp only [spread_at]
  rw [bias_sum (fun b => (w (ix2 r 0)).getLsbD (8 * t + b.val)), add_bias]
  by_cases h1 : c.val ≤ r.val <;> simp [h1]

variable (a : BitVec 32) (e : FVec Ideal S8x512 .bf16) (w : IVec S512x1 32) (u : IVec S512x8 32) (l : IVec S512x512 1)
  (s : FVec Ideal S512x512 .f32)

/-- The first maximum. -/
theorem firstMax_at (r : Fin 512) :
    k0_pay10 a e w u l s (ix2 r 0) = (Finset.univ.sup fun c : Fin 512 => (k0_pay9 a e w u l s (ix2 r c) : EReal)) := by
  rw [← fold_max_eq_sup, ← ofBits_neg_inf]
  pointwise [k0_pay10]

/-- The first exponentials. -/
theorem firstExp_at (r c : Fin 512) :
    k0_pay11 a e w u l s (ix2 r c) = Ideal.exp (k0_pay9 a e w u l s (ix2 r c) - k0_pay10 a e w u l s (ix2 r 0)) := by
  pointwise [k0_pay11]

/-- The first sum. -/
theorem firstSum_at (r : Fin 512) :
    k0_pay12 a e w u l s (ix2 r 0) = (∑ c : Fin 512, k0_pay11 a e w u l s (ix2 r c) : EReal) := by
  pointwise [k0_pay12]

/-- The first weighted values. -/
theorem firstAcc_at (v : FVec Ideal S1x512x64 .bf16) (r : Fin 512) (d : Fin 64) :
    k0_pay13 a e w u l s v (ix2 r d) = (∑ c : Fin 512, k0_pay11 a e w u l s (ix2 r c) * v (ix3 0 c d) : EReal) := by
  pointwise [k0_pay13]

/-- A later tile's masked scores. -/
theorem tile_at (i : grid0.Coords) (q : FVec Ideal S512x64 .bf16) (w : IVec S512x1 32)
    (k : Fin (k0_t1_loop i).trips) (hk : k.val < 4) (x : FVec Ideal S1x512x64 .bf16) (r c : Fin 512) :
    k0_pay14 i q (k0_pay3 (F := Ideal)) w lanes k x (ix2 r c)
      = (if (w (ix2 r 0)).getLsbD (8 * k.val + c.val / 64) = true then ∑ d : Fin 64, q (ix2 r d) * x (ix3 0 c d) else ⊥ : EReal) := by
  have hv : Scf.iv 0#32 1#32 k.val = BitVec.ofNat 32 k.val := by
    generalize k.val = n at hk
    interval_cases n <;> rfl
  have h : k0_pay14 i q (k0_pay3 (F := Ideal)) w lanes k x (ix2 r c)
      = (∑ d : Fin 64, q (ix2 r d) * x (ix3 0 c d) + ∑ b : Fin 8,
          Scalar.select (BitVec.ofBool ((w (ix2 r 0)).getLsbD (8 * k.val + b.val))) (0 : EReal) ⊥
            * k0_pay3 (F := Ideal) (ix2 b c) : EReal) := by
    simp only [← bitTest _ k.val hk]
    rw [← mask_eq, ← hv]
    generalize k0_pay3 (F := Ideal) = e
    pointwise [k0_pay14]
  rw [h]
  simp only [spread_at]
  rw [bias_sum (fun b => (w (ix2 r 0)).getLsbD (8 * k.val + b.val)), add_bias]

variable (i : grid0.Coords) (q : FVec Ideal S512x64 .bf16) (k : Fin (k0_t1_loop i).trips)
  (m l' : FVec Ideal S512x1 .f32) (acc : FVec Ideal S512x64 .f32) (x v : FVec Ideal S1x512x64 .bf16)

/-- The next maximum. -/
theorem nextMax_at (r : Fin 512) :
    k0_pay15 i q e w u k m x (ix2 r 0)
      = (max (m (ix2 r 0)) (Finset.univ.sup fun c : Fin 512 => (k0_pay14 i q e w u k x (ix2 r c) : EReal)) : EReal) := by
  rw [← fold_max_eq_sup, ← ofBits_neg_inf]
  pointwise [k0_pay15]

/-- The factor that carries the running sums to the next maximum. -/
theorem factor_at (r : Fin 512) :
    k0_pay16 i q e w u k m x (ix2 r 0) = Ideal.exp (m (ix2 r 0) - k0_pay15 i q e w u k m x (ix2 r 0)) := by
  pointwise [k0_pay16]

/-- The next exponentials. -/
theorem nextExp_at (r c : Fin 512) :
    k0_pay17 i q e w u k m x (ix2 r c)
      = Ideal.exp (k0_pay14 i q e w u k x (ix2 r c) - k0_pay15 i q e w u k m x (ix2 r 0)) := by
  pointwise [k0_pay17]

/-- The next weighted values. -/
theorem nextAcc_at (r : Fin 512) (d : Fin 64) :
    k0_pay18 i q e w u k m acc x v (ix2 r d)
      = (acc (ix2 r d) * k0_pay16 i q e w u k m x (ix2 r 0)
        + ∑ c : Fin 512, k0_pay17 i q e w u k m x (ix2 r c) * v (ix3 0 c d) : EReal) := by
  pointwise [k0_pay18]

/-- The next sum. -/
theorem nextSum_at (r : Fin 512) :
    k0_pay19 i q e w u k m l' x (ix2 r 0)
      = (l' (ix2 r 0) * k0_pay16 i q e w u k m x (ix2 r 0) + ∑ c : Fin 512, k0_pay17 i q e w u k m x (ix2 r c) : EReal) := by
  pointwise [k0_pay19]

/-- The stored quotient. -/
theorem quotient_at (r : Fin 512) (d : Fin 64) :
    k0_pay1 (k0_pay26 l' acc) (ix3 0 r d) = Ideal.div (acc (ix2 r d)) (l' (ix2 r 0)) := by
  pointwise [k0_pay1, k0_pay26]

end Cert.KernelIdeal.Payload

end
-- ==== Proof.Softmax.lean ====
/- The running softmax over tiles of columns, as pure arithmetic of extended reals: the maximum, the sum of exponentials
   and the weighted values of a set of tiles, how one more tile changes them, and their quotient at the end. -/
module

public import proofs.«01_k».proof.Proof.Spec

@[expose] public section

noncomputable section

namespace Cert.Softmax

open Idealize.ShloMosaic
open scoped Classical

/-! ### Exponentials -/

/-- The exponential of anything but plus infinity is a nonnegative real number. -/
theorem exp_real (x : EReal) (h : x ≠ ⊤) : ∃ r : ℝ, 0 ≤ r ∧ Ideal.exp x = (r : EReal) := by
  induction x using EReal.rec with
  | bot => exact ⟨0, le_rfl, by simp⟩
  | top => exact absurd rfl h
  | coe r => exact ⟨Real.exp r, (Real.exp_pos r).le, rfl⟩

/-- The exponential is positive away from minus infinity. -/
theorem exp_pos (x : EReal) (h : x ≠ ⊥) : 0 < Ideal.exp x := by
  induction x using EReal.rec with
  | bot => exact absurd rfl h
  | top => simp
  | coe r => exact EReal.coe_pos.mpr (Real.exp_pos r)

/-- A difference of ordered finite-from-above numbers is not plus infinity. -/
theorem sub_ne_top {a m : EReal} (h : a ≤ m) (hm : m ≠ ⊤) : a - m ≠ ⊤ := by
  induction m using EReal.rec with
  | bot => rw [le_bot_iff] at h; subst h; simp
  | top => exact absurd rfl hm
  | coe r =>
    induction a using EReal.rec with
    | bot => simp
    | top => exact absurd (top_le_iff.mp h) hm
    | coe a => rw [← EReal.coe_sub]; exact EReal.coe_ne_top _

/-- The exponential relative to a maximum, carried to a larger maximum. -/
theorem exp_carry {a m m' : EReal} (h : a ≤ m) (h' : m ≤ m') (hm : m' ≠ ⊤) :
    Ideal.exp (a - m) * Ideal.exp (m - m') = Ideal.exp (a - m') := by
  induction m' using EReal.rec with
  | top => exact absurd rfl hm
  | bot =>
    rw [le_bot_iff] at h'; subst h'
    rw [le_bot_iff] at h; subst h
    simp
  | coe r' =>
    induction m using EReal.rec with
    | top => exact absurd (top_le_iff.mp h') hm
    | bot =>
      rw [le_bot_iff] at h; subst h
      simp
    | coe r =>
      induction a using EReal.rec with
      | top => exact absurd (top_le_iff.mp h) (EReal.coe_ne_top _)
      | bot => simp
      | coe a =>
        rw [← EReal.coe_sub, ← EReal.coe_sub, ← EReal.coe_sub, Ideal.exp_coe, Ideal.exp_coe, Ideal.exp_coe, ← EReal.coe_mul,
          ← Real.exp_add]
        congr 2
        ring

/-- A sum times a nonnegative number other than plus infinity, term by term. -/
theorem sum_mul {ι : Type} (T : Finset ι) (f : ι → EReal) (a : EReal) (h0 : 0 ≤ a) (h1 : a ≠ ⊤) :
    (∑ i ∈ T, f i) * a = ∑ i ∈ T, f i * a := by
  induction T using Finset.induction_on with
  | empty => simp
  | insert i T hi ih => rw [Finset.sum_insert hi, Finset.sum_insert hi, EReal.right_distrib_of_nonneg_of_ne_top h0 h1, ih]

/-- A sum of real numbers is the real sum. -/
theorem sum_coe {ι : Type} (T : Finset ι) (f : ι → ℝ) : ∑ i ∈ T, (f i : EReal) = ((∑ i ∈ T, f i : ℝ) : EReal) := by
  induction T using Finset.induction_on with
  | empty => simp
  | insert i T hi ih => rw [Finset.sum_insert hi, Finset.sum_insert hi, ih, EReal.coe_add]

/-! ### Sets of tiles -/

variable {J C : Type} [Fintype J] [DecidableEq J] [Fintype C] (s v : J → C → EReal)

/-- The maximum over a set of tiles. -/
def tileMax (T : Finset J) : EReal := T.sup fun j => Finset.univ.sup (s j)

/-- The weighted values of a set of tiles, relative to the set's maximum. With all values one: the sum of exponentials. -/
def tileSum (T : Finset J) : EReal := ∑ j ∈ T, ∑ c, Ideal.exp (s j c - tileMax s T) * v j c

/-- Every score of the set is at most its maximum. -/
theorem le_tileMax {T : Finset J} {j : J} (hj : j ∈ T) (c : C) : s j c ≤ tileMax s T :=
  (Finset.le_sup (f := s j) (Finset.mem_univ c)).trans (Finset.le_sup (f := fun j => Finset.univ.sup (s j)) hj)

/-- The maximum is not plus infinity where no score is. -/
theorem tileMax_ne_top (hs : ∀ j c, s j c ≠ ⊤) (T : Finset J) : tileMax s T ≠ ⊤ := by
  refine ((Finset.sup_lt_iff bot_lt_top).mpr fun j _ => ?_).ne
  exact (Finset.sup_lt_iff bot_lt_top).mpr fun c _ => (hs j c).lt_top

/-- The maximum of one tile. -/
theorem tileMax_singleton (j : J) : tileMax s {j} = Finset.univ.sup (s j) := Finset.sup_singleton

/-- One tile's weighted values. -/
theorem tileSum_singleton (j : J) :
    tileSum s v {j} = ∑ c, Ideal.exp (s j c - Finset.univ.sup (s j)) * v j c := by
  unfold tileSum
  rw [Finset.sum_singleton, tileMax_singleton]

/-- One more tile: the maximum. -/
theorem tileMax_insert (T : Finset J) (j : J) :
    tileMax s (insert j T) = max (tileMax s T) (Finset.univ.sup (s j)) := by
  unfold tileMax
  rw [Finset.sup_insert]
  exact max_comm _ _

/-- One more tile: the weighted values so far are carried to the new maximum, and the tile's own are added. -/
theorem tileSum_insert (hs : ∀ j c, s j c ≠ ⊤) (T : Finset J) (j : J) (hj : j ∉ T) :
    tileSum s v (insert j T)
      = tileSum s v T * Ideal.exp (tileMax s T - tileMax s (insert j T))
        + ∑ c, Ideal.exp (s j c - tileMax s (insert j T)) * v j c := by
  have hle : tileMax s T ≤ tileMax s (insert j T) := by rw [tileMax_insert]; exact le_max_left _ _
  have htop := tileMax_ne_top s hs (insert j T)
  obtain ⟨a, ha, e⟩ := exp_real _ (sub_ne_top hle htop)
  have h0 : 0 ≤ Ideal.exp (tileMax s T - tileMax s (insert j T)) := by rw [e]; exact EReal.coe_nonneg.mpr ha
  have h1 : Ideal.exp (tileMax s T - tileMax s (insert j T)) ≠ ⊤ := by rw [e]; exact EReal.coe_ne_top _
  unfold tileSum
  rw [Finset.sum_insert hj, add_comm, sum_mul _ _ _ h0 h1]
  congr 1
  refine Finset.sum_congr rfl fun i hi => ?_
  rw [sum_mul _ _ _ h0 h1]
  refine Finset.sum_congr rfl fun c _ => ?_
  rw [mul_right_comm, exp_carry (le_tileMax s hi c) hle htop]

/-- Tiles in which every score is minus infinity do not change the maximum. -/
theorem tileMax_eq_univ (T : Finset J) (hT : ∀ j, j ∉ T → ∀ c, s j c = ⊥) : tileMax s T = tileMax s Finset.univ := by
  refine le_antisymm (Finset.sup_mono (Finset.subset_univ T)) (Finset.sup_le fun j _ => Finset.sup_le fun c _ => ?_)
  by_cases hj : j ∈ T
  · exact le_tileMax s hj c
  · rw [hT j hj c]; exact bot_le

/-- Nor the weighted values. -/
theorem tileSum_eq_univ (T : Finset J) (hT : ∀ j, j ∉ T → ∀ c, s j c = ⊥) : tileSum s v T = tileSum s v Finset.univ := by
  unfold tileSum
  rw [tileMax_eq_univ s T hT]
  refine Finset.sum_subset (Finset.subset_univ T) fun j _ hj => Finset.sum_eq_zero fun c _ => ?_
  rw [hT j hj c, EReal.bot_sub, Ideal.exp_bot, zero_mul]

/-- The quotient at the end: dividing the weighted values by the sum of exponentials is weighting by the quotients, when
    no score is plus infinity and some score is not minus infinity. -/
theorem quotient (hs : ∀ j c, s j c ≠ ⊤) (hx : ∃ j c, s j c ≠ ⊥) :
    Ideal.div (tileSum s v Finset.univ) (tileSum s (fun _ _ => 1) Finset.univ)
      = ∑ j, ∑ c, Ideal.div (Ideal.exp (s j c - tileMax s Finset.univ))
          (∑ j, ∑ c, Ideal.exp (s j c - tileMax s Finset.univ)) * v j c := by
  obtain ⟨M, hM⟩ : ∃ M, M = tileMax s Finset.univ := ⟨_, rfl⟩
  have htop : M ≠ ⊤ := hM ▸ tileMax_ne_top s hs _
  have hle : ∀ j c, s j c ≤ M := fun j c => hM ▸ le_tileMax s (Finset.mem_univ j) c
  unfold tileSum
  rw [← hM]
  simp only [mul_one]
  choose w hw0 hw using fun (j : J) (c : C) => exp_real _ (sub_ne_top (hle j c) htop)
  have hL : (∑ j, ∑ c, Ideal.exp (s j c - M)) = ((∑ j, ∑ c, w j c : ℝ) : EReal) := by
    simp only [hw, sum_coe]
  have hpos : 0 < ∑ j, ∑ c, w j c := by
    obtain ⟨j, c, hjc⟩ := hx
    have h1 : 0 < w j c := by
      have := exp_pos (s j c - M) (by
        intro hb
        have hbot : M ≠ ⊥ := fun e => hjc (le_bot_iff.mp (e ▸ hle j c))
        lift M to ℝ using ⟨htop, hbot⟩
        lift s j c to ℝ using ⟨hs j c, hjc⟩ with a
        rw [← EReal.coe_sub] at hb
        exact EReal.coe_ne_bot _ hb)
      rw [hw] at this
      exact EReal.coe_pos.mp this
    refine Finset.sum_pos' (fun j _ => Finset.sum_nonneg fun c _ => hw0 j c) ⟨j, Finset.mem_univ j, ?_⟩
    exact Finset.sum_pos' (fun c _ => hw0 j c) ⟨c, Finset.mem_univ c, h1⟩
  rw [hL]
  simp only [Ideal.div_coe hpos.ne']
  have i0 : (0 : EReal) ≤ ((1 / ∑ j, ∑ c, w j c : ℝ) : EReal) := EReal.coe_nonneg.mpr (by positivity)
  rw [sum_mul _ _ _ i0 (EReal.coe_ne_top _)]
  refine Finset.sum_congr rfl fun j _ => ?_
  rw [sum_mul _ _ _ i0 (EReal.coe_ne_top _)]
  refine Finset.sum_congr rfl fun c _ => ?_
  rw [mul_right_comm]

end Cert.Softmax

end
-- ==== Proof.Loop.lean ====
/- The kernel's loop over the key tiles before the diagonal: what one trip does to the running maximum, sum and weighted
   values, and what they hold after any number of trips. -/
module

public import proofs.«01_k».proof.Proof.Payload
public import proofs.«01_k».proof.Proof.Softmax
public import Idealize.ShloMosaic.Lib.WholeRead

@[expose] public section

set_option maxRecDepth 16384

noncomputable section

namespace Cert.KernelIdeal.Loop

open Cert.KernelIdeal Cert.KernelIdeal.Gen Cert.KernelIdeal.Payload
open Idealize.ShloMosaic Idealize.ShloMosaic.TcCoe Idealize.SL.Sem
open Cert.Spec Cert.Words Cert.Softmax

/-- The position of column `c` of tile `j`. -/
def key (j : Fin 4) (c : Fin 512) : Fin 2048 := ⟨j.val * 512 + c.val, by omega⟩

/-- The tile `j` of 512 rows of a key or value array. -/
def tile (X : FVec Ideal S1x2048x64 .bf16) (j : Fin 4) : FVec Ideal S1x512x64 .bf16 :=
  fun y => X (ix3 0 (key j (y 1)) (y 2))

/-- A tile at an index. -/
theorem tile_read (X : FVec Ideal S1x2048x64 .bf16) (j : Fin 4) (c : Fin 512) (d : Fin 64) :
    tile X j (ix3 0 c d) = X (ix3 0 (key j c) d) := rfl

/-- The loop makes one trip per tile before the diagonal. -/
theorem trips_eq : ∀ i : grid0.Coords, (k0_t1_loop i).trips = (i 1).val := by decide +kernel

/-- The second loop makes none. -/
theorem trips_rest : ∀ i : grid0.Coords, (k0_t2_loop i).trips = 0 := by decide +kernel

/-- The tile that a trip loads. -/
def trip (i : grid0.Coords) (k : Fin (k0_t1_loop i).trips) : Fin 4 :=
  ⟨k.val, lt_trans (lt_of_lt_of_eq k.isLt (trips_eq i)) (i 1).isLt⟩

/-- The diagonal tile. -/
def diagonal (i : grid0.Coords) : Fin 4 := ⟨(i 1).val, (i 1).isLt⟩

/-- The rectangle at a tile's first row places an index of the tile at its position in the array. -/
theorem rect_idx (j : Fin 4) (off : Fin 3 → ℕ) (h : ∀ a : Fin 3, off a + (![1, 512, 64] : Fin 3 → ℕ) a ≤ S1x2048x64.size a)
    (e : off = ![0, 512 * j.val, 0]) (y : S1x512x64.Idx) :
    (Rect.unit (s := S1x2048x64) off ![1, 512, 64] h).idx y = ix3 0 (key j (y 1)) (y 2) := by
  subst e
  funext a
  apply Fin.ext
  fin_cases a
  · have : (y 0).val < 1 := (y 0).isLt
    show 0 + 1 * (y 0).val = 0
    omega
  · show 512 * j.val + 1 * (y 1).val = j.val * 512 + (y 1).val
    omega
  · show 0 + 1 * (y 2).val = (y 2).val
    omega

/-- Loading the rectangle at a tile's first row reads the tile. -/
theorem load_tile (X : FVec Ideal S1x2048x64 .bf16) (j : Fin 4) (off : Fin 3 → ℕ)
    (h : ∀ a : Fin 3, off a + (![1, 512, 64] : Fin 3 → ℕ) a ≤ S1x2048x64.size a) (e : off = ![0, 512 * j.val, 0]) :
    View.ld (Val := Elt Ideal) (e' := .bf16) X (Rect.unit (s := S1x2048x64) off ![1, 512, 64] h) = tile X j :=
  funext fun y => congrArg X (rect_idx j off h e y)

/-- So does a load from a buffer that holds the array. -/
theorem read_tile (arg : Memref sig .tc .vmem S1x2048x64 .bf16) (harg : arg.IsWhole) (X : FVec Ideal S1x2048x64 .bf16)
    (j : Fin 4) (off : Fin 3 → ℕ)
    (h : ∀ a : Fin 3, off a + (![1, 512, 64] : Fin 3 → ℕ) a ≤ S1x2048x64.size a) (e : off = ![0, 512 * j.val, 0]) :
    View.readAt (Elt Ideal) arg.view (Rect.unit (s := S1x2048x64) off ![1, 512, 64] h).toLoadRect (harg.unread X)
      = tile X j :=
  funext fun y => (Memref.IsWhole.readAt_unread (Val := Elt Ideal) harg X _ y).trans (congrArg X (rect_idx j off h e y))

section Trips

variable (𝒱 : Variants) (c : Dev nD) (bd : Option 𝒱.V) (i : grid0.Coords)
  (arg2 : Memref sig .tc .vmem S1x512x16 .i32) (harg2 : arg2.IsWhole)
  (arg3 : Memref sig .tc .vmem S1x512x64 .bf16) (harg3 : arg3.IsWhole)
  (arg4 : Memref sig .tc .vmem S1x2048x64 .bf16) (harg4 : arg4.IsWhole)
  (arg5 : Memref sig .tc .vmem S1x2048x64 .bf16) (harg5 : arg5.IsWhole)
  (arg6 : Memref sig .tc .vmem S1x512x64 .f32) (harg6 : arg6.IsWhole)
  (arg1 : BitVec 32) (q : FVec Ideal S512x64 .bf16) (e : FVec Ideal S8x512 .bf16) (w : IVec S512x1 32)
  (u : IVec S512x8 32) (l : IVec S512x512 1) (p : FVec Ideal S512x512 .f32) (K V : FVec Ideal S1x2048x64 .bf16)
  (init : FVec Ideal S512x1 .f32 × FVec Ideal S512x1 .f32 × FVec Ideal S512x64 .f32)

/-- What one trip makes of the carried maximum, sum and weighted values. -/
theorem trip_value (k : Fin (k0_t1_loop i).trips)
    (acc : FVec Ideal S512x1 .f32 × FVec Ideal S512x1 .f32 × FVec Ideal S512x64 .f32) :
    tripR_k0_t1 (F := Ideal) 𝒱 c bd i arg2 harg2 arg3 harg3 arg4 harg4 arg5 harg5 arg6 harg6 arg1 q e w u l p
        (harg4.unread K) (harg5.unread V) k acc
      = (k0_pay15 i q e w u k acc.1 (tile K (trip i k)),
        k0_pay19 i q e w u k acc.1 acc.2.1 (tile K (trip i k)),
        k0_pay18 i q e w u k acc.1 acc.2.2 (tile K (trip i k)) (tile V (trip i k))) := by
  have hK := read_tile arg4 harg4 K (trip i k) (k0_off2 i k) (k0_off2_inb i k) (k0_off2_eq i k)
  have hV := read_tile arg5 harg5 V (trip i k) (k0_off2 i k) (k0_off2_inb i k) (k0_off2_eq i k)
  rw [← hK, ← hV]
  unfold tripR_k0_t1 trip_k0_t1
  rfl

/-- The tiles seen after `n` trips: the diagonal one and the first `n`. -/
def seen (n : ℕ) : Finset (Fin 4) := insert (diagonal i) (Finset.univ.filter fun j => j.val < n)

/-- Before the first trip only the diagonal tile was seen. -/
theorem seen_zero : seen i 0 = {diagonal i} := by
  unfold seen
  rw [Finset.filter_false_of_mem fun j _ => Nat.not_lt_zero j.val]
  rfl

/-- A trip sees one more. -/
theorem seen_succ (k : Fin (k0_t1_loop i).trips) : seen i (k.val + 1) = insert (trip i k) (seen i k.val) := by
  unfold seen
  rw [Finset.insert_comm]
  congr 1
  ext j
  simp only [Finset.mem_filter, Finset.mem_univ, true_and, Finset.mem_insert, trip, Fin.ext_iff]
  omega

/-- It was not seen before. -/
theorem trip_not_seen (k : Fin (k0_t1_loop i).trips) : trip i k ∉ seen i k.val := by
  have hk : k.val < (i 1).val := lt_of_lt_of_eq k.isLt (trips_eq i)
  unfold seen
  simp only [Finset.mem_filter, Finset.mem_univ, true_and, Finset.mem_insert, trip, diagonal, Fin.ext_iff]
  omega

/-- At the end all tiles up to the diagonal were seen. -/
theorem mem_seen_end (j : Fin 4) : j ∈ seen i (i 1).val ↔ j.val ≤ (i 1).val := by
  unfold seen
  simp only [Finset.mem_filter, Finset.mem_univ, true_and, Finset.mem_insert, diagonal, Fin.ext_iff]
  omega

/-- After `n` trips the carried values of row `r` and feature `d` are the running softmax of the tiles seen, when they are
    so before the first trip. `s` gives the row's masked scores by tile and column. -/
theorem carried (r : Fin 512) (d : Fin 64) (s : Fin 4 → Fin 512 → EReal) (hs : ∀ j c, s j c ≠ ⊤)
    (hk : ∀ (k : Fin (k0_t1_loop i).trips) (c : Fin 512),
      k0_pay14 i q e w u k (tile K (trip i k)) (ix2 r c) = s (trip i k) c)
    (h0 : init.1 (ix2 r 0) = tileMax s {diagonal i})
    (h1 : init.2.1 (ix2 r 0) = tileSum s (fun _ _ => 1) {diagonal i})
    (h2 : init.2.2 (ix2 r d) = tileSum s (fun j c => V (ix3 0 (key j c) d)) {diagonal i})
    (n : ℕ) (hn : n ≤ (k0_t1_loop i).trips) :
    let st := st_k0_t1 (F := Ideal) 𝒱 c bd i arg2 harg2 arg3 harg3 arg4 harg4 arg5 harg5 arg6 harg6 arg1 q e w u l p
        (harg4.unread K) (harg5.unread V) init n
    st.1 (ix2 r 0) = tileMax s (seen i n) ∧ st.2.1 (ix2 r 0) = tileSum s (fun _ _ => 1) (seen i n)
      ∧ st.2.2 (ix2 r d) = tileSum s (fun j c => V (ix3 0 (key j c) d)) (seen i n) := by
  intro st
  induction n with
  | zero =>
    rw [seen_zero]
    exact ⟨h0, h1, h2⟩
  | succ n ih =>
    obtain ⟨i0, i1, i2⟩ := ih (Nat.le_of_succ_le hn)
    have hst : st = _ := (st_k0_t1_succ (F := Ideal) 𝒱 c bd i arg2 harg2 arg3 harg3 arg4 harg4 arg5 harg5 arg6 harg6
      arg1 q e w u l p (harg4.unread K) (harg5.unread V) init ⟨n, hn⟩).trans (trip_value ..)
    rw [hst]
    have hm : trip i ⟨n, hn⟩ ∉ seen i n := trip_not_seen i ⟨n, hn⟩
    have hseen : seen i (n + 1) = insert (trip i ⟨n, hn⟩) (seen i n) := seen_succ i ⟨n, hn⟩
    have hmax := nextMax_at e w u i q ⟨n, hn⟩ (st_k0_t1 (F := Ideal) 𝒱 c bd i arg2 harg2 arg3 harg3 arg4 harg4 arg5 harg5
      arg6 harg6 arg1 q e w u l p (harg4.unread K) (harg5.unread V) init n).1 (tile K (trip i ⟨n, hn⟩)) r
    rw [i0] at hmax
    simp only [hk] at hmax
    rw [← tileMax_insert, ← hseen] at hmax
    refine ⟨hmax, ?_, ?_⟩
    · refine (nextSum_at e w u i q ⟨n, hn⟩ _ _ (tile K (trip i ⟨n, hn⟩)) r).trans ?_
      simp only [nextExp_at, factor_at]
      rw [hmax, i0, i1]
      simp only [hk]
      rw [hseen, tileSum_insert s _ hs _ _ hm]
      simp only [mul_one]
    · refine (nextAcc_at e w u i q ⟨n, hn⟩ _ _ (tile K (trip i ⟨n, hn⟩)) (tile V (trip i ⟨n, hn⟩)) r d).trans ?_
      simp only [nextExp_at, factor_at]
      rw [hmax, i0, i2]
      simp only [hk]
      rw [hseen, tileSum_insert s _ hs _ _ hm]
      rfl

end Trips

end Cert.KernelIdeal.Loop

end
-- ==== Proof.Tiles.lean ====
/- Attention tile by tile: the masked scores of a query in four tiles of 512 keys, and the quotient of the tiled sums as
   the attention of the whole row. -/
module

public import proofs.«01_k».proof.Proof.Loop
public import Idealize.ShloMosaic.Lib.Pointwise

@[expose] public section

set_option maxRecDepth 16384

noncomputable section

namespace Cert.Tiles

open Idealize.ShloMosaic
open Cert.Spec Cert.Softmax Cert.KernelIdeal.Loop

/-- Every position is a column of a tile. -/
theorem key_surj (k : Fin 2048) : ∃ j c, key j c = k :=
  ⟨⟨k.val / 512, by omega⟩, ⟨k.val % 512, by omega⟩, Fin.ext (by simp only [key]; omega)⟩

/-- A sum over all positions, tile by tile. -/
theorem sum_tiles (f : Fin 2048 → EReal) : ∑ k, f k = ∑ j, ∑ c, f (key j c) :=
  Fin.sum_univ_tiles 4 512 rfl f

/-- The supremum over all positions, tile by tile. -/
theorem sup_tiles (s : Fin 2048 → EReal) : Finset.univ.sup s = tileMax (fun j c => s (key j c)) Finset.univ := by
  refine le_antisymm (Finset.sup_le fun k _ => ?_) (Finset.sup_le fun j _ => Finset.sup_le fun c _ => ?_)
  · obtain ⟨j, c, rfl⟩ := key_surj k
    exact le_tileMax (fun j c => s (key j c)) (Finset.mem_univ j) c
  · exact Finset.le_sup (f := s) (Finset.mem_univ (key j c))

/-- The quotient of the tiled sums is the softmax of the row applied to the values. The tiles outside `T` are masked. -/
theorem softmax_tiles (s v : Fin 2048 → EReal) (hs : ∀ k, s k ≠ ⊤) (hx : ∃ k, s k ≠ ⊥) (T : Finset (Fin 4))
    (hT : ∀ j, j ∉ T → ∀ c, s (key j c) = ⊥) :
    Ideal.div (tileSum (fun j c => s (key j c)) (fun j c => v (key j c)) T)
        (tileSum (fun j c => s (key j c)) (fun _ _ => 1) T)
      = softmaxDot s v := by
  rw [tileSum_eq_univ _ _ T hT, tileSum_eq_univ _ _ T hT, quotient _ _ (fun j c => hs (key j c))]
  · unfold softmaxDot
    rw [sum_tiles, sup_tiles, sum_tiles]
  · obtain ⟨k, hk⟩ := hx
    obtain ⟨j, c, rfl⟩ := key_surj k
    exact ⟨j, c, hk⟩

/-- Which keys of a tile a query sees. -/
theorem allowed_key (B : Fin 16 → BitVec 32) (D j : Fin 4) (r c : Fin 512) :
    Allowed B (key D r).val (key j c).val
      ↔ ((∃ s, B s = BitVec.ofNat 32 (8 * j.val + c.val / 64)) ∨ 8 * j.val + c.val / 64 = (512 * D.val + r.val) / 64)
        ∧ j.val * 512 + c.val ≤ D.val * 512 + r.val := by
  have h1 : (j.val * 512 + c.val) / 64 = 8 * j.val + c.val / 64 := by omega
  have h2 : D.val * 512 + r.val = 512 * D.val + r.val := by omega
  simp only [Allowed, key, h1, h2]

/-- A condition that says the same as the mask gives the score. -/
theorem score_of_iff (Q : Fin 64 → EReal) (K : Fin 2048 → Fin 64 → EReal) (B : Fin 16 → BitVec 32) (q k : Fin 2048)
    (p : Prop) [Decidable p] (h : p ↔ Allowed B q.val k.val) :
    (if p then (∑ d, Q d * K k d) * eighth else ⊥) = score Q K B q k := by
  unfold score
  by_cases hp : p
  · rw [if_pos hp, if_pos (h.mp hp)]
  · rw [if_neg hp, if_neg (mt h.mpr hp)]

/-- A query sees no key of a tile after its own. -/
theorem score_after (Q : Fin 64 → EReal) (K : Fin 2048 → Fin 64 → EReal) (B : Fin 16 → BitVec 32) (D j : Fin 4)
    (r c : Fin 512) (h : D.val < j.val) : score Q K B (key D r) (key j c) = ⊥ := by
  refine if_neg fun ha => ?_
  have := ((allowed_key B D j r c).mp ha).2
  omega

end Cert.Tiles

end
-- ==== Proof.Block.lean ====
/- What one grid point of the kernel computes: the attention of the 512 queries of its tile, for one head. -/
module

public import proofs.«01_k».proof.Proof.Tiles
public import proofs.«01_k».proof.Proof.Gen.KernelIdeal.Frame
public import Idealize.ShloMosaic.Lib.Pipeline.ValueKit

@[expose] public section

set_option maxRecDepth 16384

noncomputable section

namespace Cert.KernelIdeal.Block

open Cert.KernelIdeal Cert.KernelIdeal.Gen Cert.KernelIdeal.Payload Cert.KernelIdeal.Loop
open Idealize.ShloMosaic Idealize.ShloMosaic.TcCoe Idealize.SL.Sem
open Cert.Spec Cert.Softmax Cert.Tiles

section Scores

variable (i : grid0.Coords) (B : IVec S1x512x16 32) (Q : FVec Ideal S1x512x64 .bf16) (K V : FVec Ideal S1x2048x64 .bf16)
  (r : Fin 512) (d : Fin 64)

/-- The selection bits of the point's queries. -/
def bits : IVec S512x1 32 := k0_pay6 (k0_pay4 i) (k0_pay5 (F := Ideal) B)

/-- The scores of row `r` of the point against every key. -/
def scores (k : Fin 2048) : EReal :=
  score (fun d => Q (ix3 0 r d)) (fun k d => K (ix3 0 k d)) (fun s => B (ix3 0 r s)) (key (diagonal i) r) k

/-- The products of the scaled queries with a tile are the scaled products. -/
theorem scaled_products (j : Fin 4) (c : Fin 512) :
    (∑ d : Fin 64, k0_pay2 (F := Ideal) Q (ix2 r d) * tile K j (ix3 0 c d) : EReal)
      = (∑ d : Fin 64, Q (ix3 0 r d) * K (ix3 0 (key j c) d) : EReal) * eighth := by
  have h0 : (0 : EReal) ≤ eighth := by rw [eighth_eq]; exact EReal.coe_nonneg.mpr (by norm_num)
  have h1 : eighth ≠ ⊤ := by rw [eighth_eq]; exact EReal.coe_ne_top _
  rw [sum_mul _ _ _ h0 h1]
  refine Finset.sum_congr rfl fun d _ => ?_
  rw [scaled_at, tile_read, mul_right_comm]

/-- The diagonal tile's masked scores are the scores of its keys. -/
theorem diagonal_scores (c : Fin 512) :
    k0_pay9 (BitVec.ofNat 32 (i 1).val) (k0_pay3 (F := Ideal)) (bits i B) lanes k0_pay7
        (k0_pay8 (k0_pay2 Q) (tile K (diagonal i))) (ix2 r c)
      = scores i B Q K r (key (diagonal i) c) := by
  have hi : (i 1).val < 4 := (i 1).isLt
  refine (diagonal_at (i 1).val hi _ _ r c).trans ?_
  rw [products_at, scaled_products]
  refine score_of_iff (fun d => Q (ix3 0 r d)) (fun k d => K (ix3 0 k d)) (fun s => B (ix3 0 r s)) _ _ _ ?_
  rw [allowed_key, bits, bits_at i B r _ (by omega)]
  simp only [diagonal]
  constructor
  · rintro ⟨h1, h2⟩
    exact ⟨h2, by omega⟩
  · rintro ⟨h2, h1⟩
    exact ⟨by omega, h2⟩

/-- An earlier tile's masked scores are the scores of its keys. -/
theorem trip_scores (k : Fin (k0_t1_loop i).trips) (c : Fin 512) :
    k0_pay14 i (k0_pay2 Q) (k0_pay3 (F := Ideal)) (bits i B) lanes k (tile K (trip i k)) (ix2 r c)
      = scores i B Q K r (key (trip i k) c) := by
  have hi : (i 1).val < 4 := (i 1).isLt
  have hk : k.val < (i 1).val := lt_of_lt_of_eq k.isLt (trips_eq i)
  refine (tile_at i _ _ k (by omega) _ r c).trans ?_
  rw [scaled_products]
  refine score_of_iff (fun d => Q (ix3 0 r d)) (fun k d => K (ix3 0 k d)) (fun s => B (ix3 0 r s)) _ _ _ ?_
  rw [allowed_key, bits, bits_at i B r _ (by omega)]
  simp only [diagonal, trip]
  constructor
  · intro h
    exact ⟨h, by omega⟩
  · rintro ⟨h, _⟩
    exact h

end Scores

section Point

variable (𝒱 : Variants) (c : Dev nD) (bd : Option 𝒱.V) (i : grid0.Coords)
  (arg2 : Memref sig .tc .vmem S1x512x16 .i32) (harg2 : arg2.IsWhole)
  (arg3 : Memref sig .tc .vmem S1x512x64 .bf16) (harg3 : arg3.IsWhole)
  (arg4 : Memref sig .tc .vmem S1x2048x64 .bf16) (harg4 : arg4.IsWhole)
  (arg5 : Memref sig .tc .vmem S1x2048x64 .bf16) (harg5 : arg5.IsWhole)
  (arg6 : Memref sig .tc .vmem S1x512x64 .f32) (harg6 : arg6.IsWhole)
  (B : IVec S1x512x16 32) (Q : FVec Ideal S1x512x64 .bf16) (K V : FVec Ideal S1x2048x64 .bf16)
  (r : Fin 512) (d : Fin 64)

/-- What the diagonal tile leaves: maximum, sum and weighted values. -/
def start (x v : FVec Ideal S1x512x64 .bf16) : FVec Ideal S512x1 .f32 × FVec Ideal S512x1 .f32 × FVec Ideal S512x64 .f32 :=
  (k0_pay10 (BitVec.ofNat 32 (i 1).val) (k0_pay3 (F := Ideal)) (bits i B) lanes k0_pay7 (k0_pay8 (k0_pay2 Q) x),
    k0_pay12 (BitVec.ofNat 32 (i 1).val) (k0_pay3 (F := Ideal)) (bits i B) lanes k0_pay7 (k0_pay8 (k0_pay2 Q) x),
    k0_pay13 (BitVec.ofNat 32 (i 1).val) (k0_pay3 (F := Ideal)) (bits i B) lanes k0_pay7 (k0_pay8 (k0_pay2 Q) x) v)

/-- The start's maximum. -/
theorem start_max (v : FVec Ideal S1x512x64 .bf16) :
    (start i B Q (tile K (diagonal i)) v).1 (ix2 r 0) = tileMax (fun j c => scores i B Q K r (key j c)) {diagonal i} := by
  rw [tileMax_singleton]
  unfold start
  dsimp only
  rw [firstMax_at]
  simp only [diagonal_scores]

/-- The start's sum. -/
theorem start_sum (v : FVec Ideal S1x512x64 .bf16) :
    (start i B Q (tile K (diagonal i)) v).2.1 (ix2 r 0)
      = tileSum (fun j c => scores i B Q K r (key j c)) (fun _ _ => 1) {diagonal i} := by
  rw [tileSum_singleton]
  refine (firstSum_at ..).trans ?_
  simp only [firstExp_at, firstMax_at, diagonal_scores, mul_one]

/-- The start's weighted values. -/
theorem start_acc :
    (start i B Q (tile K (diagonal i)) (tile V (diagonal i))).2.2 (ix2 r d)
      = tileSum (fun j c => scores i B Q K r (key j c)) (fun j c => V (ix3 0 (key j c) d)) {diagonal i} := by
  rw [tileSum_singleton]
  refine (firstAcc_at ..).trans ?_
  simp only [firstExp_at, firstMax_at, diagonal_scores, tile_read]

/-- The carried values at the end of the loop. -/
def final (x v : FVec Ideal S1x512x64 .bf16) : FVec Ideal S512x1 .f32 × FVec Ideal S512x1 .f32 × FVec Ideal S512x64 .f32 :=
  st_k0_t1 (F := Ideal) 𝒱 c bd i arg2 harg2 arg3 harg3 arg4 harg4 arg5 harg5 arg6 harg6 (BitVec.ofNat 32 (i 1).val)
    (k0_pay2 Q) (k0_pay3 (F := Ideal)) (bits i B) lanes k0_pay7 (k0_pay8 (k0_pay2 Q) x) (harg4.unread K) (harg5.unread V)
    (start i B Q x v) (k0_t1_loop i).trips

/-- A second loop without trips leaves what it was given. -/
theorem rest (a : BitVec 32) (q : FVec Ideal S512x64 .bf16) (e : FVec Ideal S8x512 .bf16) (w : IVec S512x1 32)
    (u : IVec S512x8 32) (l : IVec S512x512 1) (p : FVec Ideal S512x512 .f32)
    (X4 : BufTy.Contents (Elt Ideal) arg4.view.ty) (X5 : BufTy.Contents (Elt Ideal) arg5.view.ty)
    (init : FVec Ideal S512x1 .f32 × FVec Ideal S512x1 .f32 × FVec Ideal S512x64 .f32) (n : ℕ) (hn : n = 0) :
    st_k0_t2 (F := Ideal) 𝒱 c bd i arg2 harg2 arg3 harg3 arg4 harg4 arg5 harg5 arg6 harg6 a q e w u l p X4 X5 init n = init := by
  subst hn
  rfl

/-- The quotient that the point stores is the attention of its query, when no score is plus infinity and some score is not
    minus infinity. -/
theorem point (hs : ∀ k, scores i B Q K r k ≠ ⊤) (hx : ∃ k, scores i B Q K r k ≠ ⊥) :
    k0_pay1 (k0_pay26
        (final 𝒱 c bd i arg2 harg2 arg3 harg3 arg4 harg4 arg5 harg5 arg6 harg6 B Q K V (tile K (diagonal i)) (tile V (diagonal i))).2.1
        (final 𝒱 c bd i arg2 harg2 arg3 harg3 arg4 harg4 arg5 harg5 arg6 harg6 B Q K V (tile K (diagonal i)) (tile V (diagonal i))).2.2)
        (ix3 0 r d)
      = attention (fun d => Q (ix3 0 r d)) (fun k d => K (ix3 0 k d)) (fun k => V (ix3 0 k d)) (fun s => B (ix3 0 r s))
          (key (diagonal i) r) := by
  obtain ⟨_, h1, h2⟩ := carried 𝒱 c bd i arg2 harg2 arg3 harg3 arg4 harg4 arg5 harg5 arg6 harg6
    (BitVec.ofNat 32 (i 1).val) (k0_pay2 Q) (k0_pay3 (F := Ideal)) (bits i B) lanes k0_pay7
    (k0_pay8 (k0_pay2 Q) (tile K (diagonal i))) K V (start i B Q (tile K (diagonal i)) (tile V (diagonal i))) r d
    (fun j c => scores i B Q K r (key j c)) (fun j c => hs (key j c)) (fun k c => trip_scores i B Q K r k c)
    (start_max i B Q K r _) (start_sum i B Q K r _) (start_acc i B Q K V r d) (k0_t1_loop i).trips le_rfl
  refine (quotient_at _ _ r d).trans ?_
  refine (congrArg₂ Ideal.div h2 h1).trans ?_
  refine softmax_tiles (scores i B Q K r) (fun k => V (ix3 0 k d)) hs hx _ fun j hj c => ?_
  rw [trips_eq, mem_seen_end] at hj
  exact score_after _ _ _ (diagonal i) j r c (not_le.mp hj)

end Point

/-- What the point leaves in its output block. -/
theorem out_at (m : (ℓ : Loc nD τ sig) → Buf (Elt Ideal) ℓ) (c : Dev nD) (t : Fin cfg0.N) (r : Fin 512) (d : Fin 64)
    (hs : ∀ k, scores (grid0.coords t) (iblk m c 0 t) (iblk m c 1 t) (iblk m c 2 t) r k ≠ ⊤)
    (hx : ∃ k, scores (grid0.coords t) (iblk m c 0 t) (iblk m c 1 t) (iblk m c 2 t) r k ≠ ⊥) :
    outsAt0 m c t (ix3 0 r d)
      = attention (fun d => (iblk m c 1 t : FVec Ideal S1x512x64 .bf16) (ix3 0 r d))
          (fun k d => (iblk m c 2 t : FVec Ideal S1x2048x64 .bf16) (ix3 0 k d))
          (fun k => (iblk m c 3 t : FVec Ideal S1x2048x64 .bf16) (ix3 0 k d))
          (fun s => (iblk m c 0 t : IVec S1x512x16 32) (ix3 0 r s))
          (key (diagonal (grid0.coords t)) r) := by
  rw [← point Variants.none c none (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t) r d hs hx]
  have hK := load_tile (iblk m c 2 t) (diagonal (grid0.coords t)) (k0_off1 (grid0.coords t)) (k0_off1_inb (grid0.coords t)) (k0_off1_eq (grid0.coords t))
  have hV := load_tile (iblk m c 3 t) (diagonal (grid0.coords t)) (k0_off1 (grid0.coords t)) (k0_off1_inb (grid0.coords t)) (k0_off1_eq (grid0.coords t))
  rw [← hK, ← hV]
  unfold outsAt0
  frame_out
  rw [rest]
  · rfl
  · exact trips_rest (grid0.coords t)

end Cert.KernelIdeal.Block

end
-- ==== Proof.Run.lean ====
/- The run of the idealized kernel: what its result buffer holds at the end, as the reshape of the pipeline's final
   output array, with the arguments unchanged. -/
module

public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The result buffer after the host reshape that follows the pipeline: the pipeline's output array, reshaped. -/
theorem tail (c : Dev nD) :
    Pipeline.afterTail₀ cfgs (dats m) 0 (V0 m) [hostOps1] c main_v8
      = shapeCast S1x12x2048x64 ((dats m 0 c).arrAt 4 cfg0.N : S12x2048x64.Idx → Elt F .f32) shapeCasts_S12x2048x64_S1x12x2048x64 := by
  unfold Pipeline.afterTail₀
  simp only [hostOps1, List.flatten_cons, List.flatten_nil, List.append_nil, StableHlo.after_cons, StableHlo.after_nil]
  rw [StableHlo.reshape_result]
  exact congrArg (fun X : S12x2048x64.Idx → Elt F .f32 => shapeCast S1x12x2048x64 X shapeCasts_S12x2048x64_S1x12x2048x64)
    (Pipeline.withArrays_arr spec0 (by decide) c (V0 m c) (fun w => (dats m 0 c).arrAt w (cfgs 0).N) 4)

/-- The kernel's run: the result is the reshaped output array, the arguments are unchanged. -/
theorem run : θ_run defs (onTc (τ := τ) (main (F := F))) ⟨m, fun _ => 0, ρ⟩ (fun r => ∀ c : Dev nD,
      r.2.mem ((c.tc : Thread nD τ).loc main_v8)
        = shapeCast S1x12x2048x64 ((dats m 0 c).arrAt 4 cfg0.N : S12x2048x64.Idx → Elt F .f32) shapeCasts_S12x2048x64_S1x12x2048x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v8 (Pipeline.mem_restRefs_of main_v8 (by decide) (by decide))).trans (tail m c), h.2 c⟩)
    (θ_run_and (run_main m ρ) (unchanged m ρ))

end Cert.KernelIdeal.Run

end
-- ==== Proof.Array.lean ====
/- What the kernel's output array holds: at every head, query and feature, the attention over the arguments. -/
module

public import proofs.«01_k».proof.Proof.Block
public import proofs.«01_k».proof.Proof.Run

@[expose] public section

set_option maxRecDepth 16384

noncomputable section

namespace Cert.KernelIdeal.Array

open Cert.KernelIdeal Cert.KernelIdeal.Gen Cert.KernelIdeal.Loop Cert.KernelIdeal.Block
open Idealize.ShloMosaic Idealize.ShloMosaic.TcCoe Idealize.SL.Sem
open Cert.Spec Cert.Tiles

variable (m : (ℓ : Loc nD τ sig) → Buf (Elt Ideal) ℓ) (c : Dev nD)

/-- The queries of a head, read from the arguments. -/
abbrev inQ (h : Fin 12) (q : Fin 2048) (d : Fin 64) : EReal :=
  (m ((c.tc : Thread nD τ).loc main_arg0) : FVec Ideal S1x12x2048x64 .f32) (ix4 0 h q d)

/-- The keys of a head. -/
abbrev inK (h : Fin 12) (k : Fin 2048) (d : Fin 64) : EReal :=
  (m ((c.tc : Thread nD τ).loc main_arg1) : FVec Ideal S1x12x2048x64 .f32) (ix4 0 h k d)

/-- The values of a head. -/
abbrev inV (h : Fin 12) (k : Fin 2048) (d : Fin 64) : EReal :=
  (m ((c.tc : Thread nD τ).loc main_arg2) : FVec Ideal S1x12x2048x64 .f32) (ix4 0 h k d)

/-- The chosen blocks of a head's queries. -/
abbrev inB (h : Fin 12) (q : Fin 2048) (s : Fin 16) : BitVec 32 :=
  (m ((c.tc : Thread nD τ).loc main_arg3) : IVec S1x12x2048x16 32) (ix4 0 h q s)

/-! ### The arrays that the host stages -/

/-- The leading axis of size one dropped. -/
theorem drop_at (X : FVec Ideal S1x12x2048x64 .f32) (h : Fin 12) (q : Fin 2048) (d : Fin 64) :
    (truncf .bf16 (shapeCast S12x2048x64 X shapeCasts_S1x12x2048x64_S12x2048x64 : FVec Ideal S12x2048x64 .f32)
      bitsLt_bf16_f32 : FVec Ideal S12x2048x64 .bf16) (ix3 h q d) = X (ix4 0 h q d) := by
  pointwise

/-- The same for the block choices. -/
theorem drop_words_at (X : IVec S1x12x2048x16 32) (h : Fin 12) (q : Fin 2048) (s : Fin 16) :
    (shapeCast S12x2048x16 X shapeCasts_S1x12x2048x16_S12x2048x16 : IVec S12x2048x16 32) (ix3 h q s) = X (ix4 0 h q s) := by
  pointwise

/-- The leading axis put back. -/
theorem add_at (X : FVec Ideal S12x2048x64 .f32) (h : Fin 12) (q : Fin 2048) (d : Fin 64) :
    (shapeCast S1x12x2048x64 X shapeCasts_S12x2048x64_S1x12x2048x64 : FVec Ideal S1x12x2048x64 .f32) (ix4 0 h q d)
      = X (ix3 h q d) := by
  pointwise

/-- The staged queries are the argument's, reshaped and narrowed. -/
theorem stagedQ (h : Fin 12) (q : Fin 2048) (d : Fin 64) :
    (V m c main_v1 : FVec Ideal S12x2048x64 .bf16) (ix3 h q d) = inQ m c h q d := by
  have e : (V m c main_v1 : FVec Ideal S12x2048x64 .bf16)
      = truncf .bf16 (shapeCast S12x2048x64 (m ((c.tc : Thread nD τ).loc main_arg0) : FVec Ideal S1x12x2048x64 .f32)
          shapeCasts_S1x12x2048x64_S12x2048x64 : FVec Ideal S12x2048x64 .f32) bitsLt_bf16_f32 := rfl
  rw [e]
  exact drop_at _ h q d

/-- The staged keys are the argument's, reshaped and narrowed. -/
theorem stagedK (h : Fin 12) (q : Fin 2048) (d : Fin 64) :
    (V m c main_v3 : FVec Ideal S12x2048x64 .bf16) (ix3 h q d) = inK m c h q d := by
  have e : (V m c main_v3 : FVec Ideal S12x2048x64 .bf16)
      = truncf .bf16 (shapeCast S12x2048x64 (m ((c.tc : Thread nD τ).loc main_arg1) : FVec Ideal S1x12x2048x64 .f32)
          shapeCasts_S1x12x2048x64_S12x2048x64 : FVec Ideal S12x2048x64 .f32) bitsLt_bf16_f32 := rfl
  rw [e]
  exact drop_at _ h q d

/-- The staged values are the argument's, reshaped and narrowed. -/
theorem stagedV (h : Fin 12) (q : Fin 2048) (d : Fin 64) :
    (V m c main_v5 : FVec Ideal S12x2048x64 .bf16) (ix3 h q d) = inV m c h q d := by
  have e : (V m c main_v5 : FVec Ideal S12x2048x64 .bf16)
      = truncf .bf16 (shapeCast S12x2048x64 (m ((c.tc : Thread nD τ).loc main_arg2) : FVec Ideal S1x12x2048x64 .f32)
          shapeCasts_S1x12x2048x64_S12x2048x64 : FVec Ideal S12x2048x64 .f32) bitsLt_bf16_f32 := rfl
  rw [e]
  exact drop_at _ h q d

/-- The staged block choices are the argument's, reshaped. -/
theorem stagedB (h : Fin 12) (q : Fin 2048) (s : Fin 16) :
    (V m c main_v6 : IVec S12x2048x16 32) (ix3 h q s) = inB m c h q s := by
  have e : (V m c main_v6 : IVec S12x2048x16 32)
      = shapeCast S12x2048x16 (m ((c.tc : Thread nD τ).loc main_arg3) : IVec S1x12x2048x16 32)
          shapeCasts_S1x12x2048x16_S12x2048x16 := rfl
  rw [e]
  exact drop_words_at _ h q s

/-! ### The blocks of a grid point -/

/-- The head of a grid point. -/
def head (t : Fin cfg0.N) : Fin 12 := ⟨(grid0.coords t 0).val, (grid0.coords t 0).isLt⟩

/-- The query of row `r` of a grid point. -/
abbrev query (t : Fin cfg0.N) (r : Fin 512) : Fin 2048 := key (diagonal (grid0.coords t)) r

/-- Which block of the chosen blocks a grid point takes. -/
theorem index0 : ∀ t : Fin cfg0.N, win0_0.index t = ![(grid0.coords t 0).val, (grid0.coords t 1).val, 0] :=
  (by decide +kernel : ∀ t : Fin grid0.N, _)

/-- Which block of the queries a grid point takes. -/
theorem index1 : ∀ t : Fin cfg0.N, win0_1.index t = ![(grid0.coords t 0).val, (grid0.coords t 1).val, 0] :=
  (by decide +kernel : ∀ t : Fin grid0.N, _)

/-- Which block of the keys a grid point takes. -/
theorem index2 : ∀ t : Fin cfg0.N, win0_2.index t = ![(grid0.coords t 0).val, 0, 0] :=
  (by decide +kernel : ∀ t : Fin grid0.N, _)

/-- Which block of the values a grid point takes. -/
theorem index3 : ∀ t : Fin cfg0.N, win0_3.index t = ![(grid0.coords t 0).val, 0, 0] :=
  (by decide +kernel : ∀ t : Fin grid0.N, _)

/-- Which block of the outputs a grid point takes. -/
theorem index4 : ∀ t : Fin cfg0.N, win0_4.index t = ![(grid0.coords t 0).val, (grid0.coords t 1).val, 0] :=
  (by decide +kernel : ∀ t : Fin grid0.N, _)

/-- The chosen blocks of a grid point. -/
theorem blockB (t : Fin cfg0.N) (r : Fin 512) (d : Fin 16) :
    (iblk m c 0 t : IVec S1x512x16 32) (ix3 0 r d) = inB m c (head t) (query t r) d := by
  rw [← stagedB]
  blk_simp [iblk]
  refine congrArg _ (funext fun a => Fin.ext ?_)
  blk_simp [index0]
  fin_cases a
  · show (grid0.coords t 0).val * 1 + 0 = (grid0.coords t 0).val
    omega
  · show (grid0.coords t 1).val * 512 + r.val = (grid0.coords t 1).val * 512 + r.val
    omega
  · show 0 * 16 + d.val = d.val
    omega

/-- The queries of a grid point. -/
theorem blockQ (t : Fin cfg0.N) (r : Fin 512) (d : Fin 64) :
    (iblk m c 1 t : FVec Ideal S1x512x64 .bf16) (ix3 0 r d) = inQ m c (head t) (query t r) d := by
  rw [← stagedQ]
  blk_simp [iblk]
  refine congrArg _ (funext fun a => Fin.ext ?_)
  blk_simp [index1]
  fin_cases a
  · show (grid0.coords t 0).val * 1 + 0 = (grid0.coords t 0).val
    omega
  · show (grid0.coords t 1).val * 512 + r.val = (grid0.coords t 1).val * 512 + r.val
    omega
  · show 0 * 64 + d.val = d.val
    omega

/-- The keys of a grid point. -/
theorem blockK (t : Fin cfg0.N) (r : Fin 2048) (d : Fin 64) :
    (iblk m c 2 t : FVec Ideal S1x2048x64 .bf16) (ix3 0 r d) = inK m c (head t) (r) d := by
  rw [← stagedK]
  blk_simp [iblk]
  refine congrArg _ (funext fun a => Fin.ext ?_)
  blk_simp [index2]
  fin_cases a
  · show (grid0.coords t 0).val * 1 + 0 = (grid0.coords t 0).val
    omega
  · show 0 * 2048 + r.val = r.val
    omega
  · show 0 * 64 + d.val = d.val
    omega

/-- The values of a grid point. -/
theorem blockV (t : Fin cfg0.N) (r : Fin 2048) (d : Fin 64) :
    (iblk m c 3 t : FVec Ideal S1x2048x64 .bf16) (ix3 0 r d) = inV m c (head t) (r) d := by
  rw [← stagedV]
  blk_simp [iblk]
  refine congrArg _ (funext fun a => Fin.ext ?_)
  blk_simp [index3]
  fin_cases a
  · show (grid0.coords t 0).val * 1 + 0 = (grid0.coords t 0).val
    omega
  · show 0 * 2048 + r.val = r.val
    omega
  · show 0 * 64 + d.val = d.val
    omega

/-! ### The output array -/

/-- The scores of a query of the arguments against a key. -/
def inScore (h : Fin 12) (q k : Fin 2048) : EReal := score (inQ m c h q) (inK m c h) (inB m c h q) q k

/-- The attention of a query of the arguments at a feature. -/
def inAttention (h : Fin 12) (q : Fin 2048) (d : Fin 64) : EReal :=
  attention (inQ m c h q) (inK m c h) (fun k => inV m c h k d) (inB m c h q) q

/-- A grid point's scores are the arguments'. -/
theorem point_scores (t : Fin cfg0.N) (r : Fin 512) (k : Fin 2048) :
    scores (grid0.coords t) (iblk m c 0 t) (iblk m c 1 t) (iblk m c 2 t) r k = inScore m c (head t) (query t r) k := by
  unfold scores inScore
  simp only [blockB, blockQ, blockK]

/-- A grid point's output block is the attention of its queries. -/
theorem point_out (t : Fin cfg0.N) (r : Fin 512) (d : Fin 64)
    (hs : ∀ h q k, inScore m c h q k ≠ ⊤) (hx : ∀ h q, ∃ k, inScore m c h q k ≠ ⊥) :
    outsAt0 m c t (ix3 0 r d) = inAttention m c (head t) (query t r) d := by
  rw [out_at m c t r d]
  · unfold inAttention
    simp only [blockB, blockQ, blockK, blockV]
  · intro k
    rw [point_scores]
    exact hs _ _ _
  · obtain ⟨k, hk⟩ := hx (head t) (query t r)
    refine ⟨k, ?_⟩
    rw [point_scores]
    exact hk

/-- Where an entry of a grid point's output block lies in the array. -/
theorem out_place (t : Fin cfg0.N) (r : Fin 512) (d : Fin 64) :
    (win0_4.blk t).view.emb (ix3 0 r d) = ix3 (head t) (query t r) d := by
  refine funext fun a => Fin.ext ?_
  blk_simp [index4]
  fin_cases a
  · show (grid0.coords t 0).val * 1 + 0 = (grid0.coords t 0).val
    omega
  · show (grid0.coords t 1).val * 512 + r.val = (grid0.coords t 1).val * 512 + r.val
    omega
  · show 0 * 64 + d.val = d.val
    omega

/-- The output array after the last grid point holds the attention of every query at every feature. -/
theorem array (hs : ∀ h q k, inScore m c h q k ≠ ⊤) (hx : ∀ h q, ∃ k, inScore m c h q k ≠ ⊥) :
    ((dats m 0 c).arrAt 4 cfg0.N : S12x2048x64.Idx → EReal) = fun y => inAttention m c (y 0) (y 1) (y 2) := by
  refine (dats m 0 c).arrAt_eq_of_covers 4 (fun y => inAttention m c (y 0) (y 1) (y 2)) (by decide +kernel) fun t hf y => ?_
  blk_simp
  rw [after0_4]
  obtain ⟨r, d, rfl⟩ : ∃ (r : Fin 512) (d : Fin 64), y = ix3 0 r d := ⟨y 1, y 2, funext fun a => by
    fin_cases a
    · exact Subsingleton.elim (α := Fin 1) _ _
    · rfl
    · rfl⟩
  rw [out_place]
  exact point_out m c t r d hs hx

/-- The result of the idealized kernel. -/
theorem result_at (hs : ∀ h q k, inScore m c h q k ≠ ⊤) (hx : ∀ h q, ∃ k, inScore m c h q k ≠ ⊥)
    (h : Fin 12) (q : Fin 2048) (d : Fin 64) :
    (shapeCast S1x12x2048x64 ((dats m 0 c).arrAt 4 cfg0.N : S12x2048x64.Idx → EReal) shapeCasts_S12x2048x64_S1x12x2048x64
        : FVec Ideal S1x12x2048x64 .f32) (ix4 0 h q d) = inAttention m c h q d := by
  rw [array m c hs hx]
  exact add_at _ h q d

end Cert.KernelIdeal.Array

end
-- ==== Proof.Reference.lean ====
/- What the reference computes at an index: the attention formula of its arguments. -/
module

public import proofs.«01_k».proof.Proof.Gen.ReferenceIdeal.Run
public import proofs.«01_k».proof.Proof.Spec
public import proofs.«01_k».proof.Proof.Words
public import Idealize.ShloMosaic.Lib.Pointwise

@[expose] public section

set_option maxRecDepth 16384

noncomputable section

namespace Cert.ReferenceIdeal.At

open Cert.ReferenceIdeal Cert.ReferenceIdeal.Gen Cert.ReferenceIdeal.Value
open Idealize.ShloMosaic Idealize.ShloMosaic.TcCoe Idealize.SL.Sem
open Cert.Spec Cert.Words Idealize.ShloMosaic.WordCmp
open scoped Classical

variable (m : (ℓ : Loc nD τ sig) → Buf (Elt Ideal) ℓ) (c : Dev nD)

/-- The four arguments, by head, position and feature. -/
abbrev argQ (h : Fin 12) (q : Fin 2048) (d : Fin 64) : EReal := (m ((c.tc : Thread nD τ).loc main_arg0) : FVec Ideal S1x12x2048x64 .f32) (ix4 0 h q d)
abbrev argK (h : Fin 12) (q : Fin 2048) (d : Fin 64) : EReal := (m ((c.tc : Thread nD τ).loc main_arg1) : FVec Ideal S1x12x2048x64 .f32) (ix4 0 h q d)
abbrev argV (h : Fin 12) (q : Fin 2048) (d : Fin 64) : EReal := (m ((c.tc : Thread nD τ).loc main_arg2) : FVec Ideal S1x12x2048x64 .f32) (ix4 0 h q d)
abbrev argB (h : Fin 12) (q : Fin 2048) (s : Fin 16) : BitVec 32 := (m ((c.tc : Thread nD τ).loc main_arg3) : IVec S1x12x2048x16 32) (ix4 0 h q s)

/-- A comparison bit converted to a float is one or zero. -/
theorem uitofp_cmpi (a b : BitVec 32) :
    (FloatOps.uitofp .f32 (IntOp.cmpi .eq a b) : Ideal .f32) = if a = b then (1 : EReal) else 0 := by
  rw [cmpi_eq_eq]
  show (((BitVec.ofBool (decide (a = b))).toNat : ℝ) : EReal) = _
  by_cases h : a = b <;> simp [h]

/-- A sum of indicators is positive exactly when one of them is set. -/
theorem sum_indicator_pos {ι : Type} [Fintype ι] (p : ι → Prop) [DecidablePred p] :
    (0 : EReal) < ∑ i, (if p i then (1 : EReal) else 0) ↔ ∃ i, p i := by
  constructor
  · intro h
    by_contra hn
    push Not at hn
    rw [Finset.sum_eq_zero fun i _ => if_neg (hn i)] at h
    exact lt_irrefl _ h
  · rintro ⟨i, hi⟩
    have h0 : ∀ j ∈ Finset.univ, (0 : EReal) ≤ if p j then (1 : EReal) else 0 := fun j _ => by split_ifs <;> simp
    have h1 := Finset.single_le_sum h0 (Finset.mem_univ i)
    rw [if_pos hi] at h1
    exact lt_of_lt_of_le zero_lt_one h1

/-- The block number of every key position, laid out as a row. -/
def keyBlocks : IVec S1x2048 32 :=
  select (andi (cmpi .ne (signi (broadcastInDim S1x2048 ![1] bcast_S2048_S1x2048_1 (iotaInDim S2048 32 0)))
        (broadcastInDim S1x2048 ![] bcast_S_S1x2048 (signi (id (constantI S_ 32 64#32)))))
      (cmpi .ne (Host.remsi (broadcastInDim S1x2048 ![1] bcast_S2048_S1x2048_1 (iotaInDim S2048 32 0))
          (broadcastInDim S1x2048 ![] bcast_S_S1x2048 (id (constantI S_ 32 64#32))))
        (broadcastInDim S1x2048 ![] bcast_S_S1x2048 (constantI S_ 32 0#32))))
    (subi (Host.divsi (broadcastInDim S1x2048 ![1] bcast_S2048_S1x2048_1 (iotaInDim S2048 32 0))
        (broadcastInDim S1x2048 ![] bcast_S_S1x2048 (id (constantI S_ 32 64#32))))
      (broadcastInDim S1x2048 ![] bcast_S_S1x2048 (constantI S_ 32 1#32)))
    (Host.divsi (broadcastInDim S1x2048 ![1] bcast_S2048_S1x2048_1 (iotaInDim S2048 32 0))
      (broadcastInDim S1x2048 ![] bcast_S_S1x2048 (id (constantI S_ 32 64#32))))

/-- The block number of every query position, laid out as a column. -/
def queryBlocks : IVec S2048x1 32 :=
  select (andi (cmpi .ne (signi (broadcastInDim S2048x1 ![0] bcast_S2048_S2048x1_0 (iotaInDim S2048 32 0)))
        (broadcastInDim S2048x1 ![] bcast_S_S2048x1 (signi (id (constantI S_ 32 64#32)))))
      (cmpi .ne (Host.remsi (broadcastInDim S2048x1 ![0] bcast_S2048_S2048x1_0 (iotaInDim S2048 32 0))
          (broadcastInDim S2048x1 ![] bcast_S_S2048x1 (id (constantI S_ 32 64#32))))
        (broadcastInDim S2048x1 ![] bcast_S_S2048x1 (constantI S_ 32 0#32))))
    (subi (Host.divsi (broadcastInDim S2048x1 ![0] bcast_S2048_S2048x1_0 (iotaInDim S2048 32 0))
        (broadcastInDim S2048x1 ![] bcast_S_S2048x1 (id (constantI S_ 32 64#32))))
      (broadcastInDim S2048x1 ![] bcast_S_S2048x1 (constantI S_ 32 1#32)))
    (Host.divsi (broadcastInDim S2048x1 ![0] bcast_S2048_S2048x1_0 (iotaInDim S2048 32 0))
      (broadcastInDim S2048x1 ![] bcast_S_S2048x1 (id (constantI S_ 32 64#32))))

/-- The bit of a chosen block, for every query and block. -/
def chosen (B : IVec S1x12x2048x16 32) : IVec S1x12x2048x32 1 :=
  cmpf .ogt (Host.reduceAdd (uitofp .f32 (cmpi .eq
      (broadcastInDim S1x12x2048x16x32 ![0, 1, 2, 3, 4] bcast_S1x12x2048x16x1_S1x12x2048x16x32_0_1_2_3_4
        (broadcastInDim S1x12x2048x16x1 ![0, 1, 2, 3] bcast_S1x12x2048x16_S1x12x2048x16x1_0_1_2_3 B))
      (broadcastInDim S1x12x2048x16x32 ![0, 1, 2, 3, 4] bcast_S1x1x1x1x32_S1x12x2048x16x32_0_1_2_3_4
        (iotaInDim S1x1x1x1x32 32 4)))) (constant S_ .f32 0x00000000#32)
      reducesTo_S1x12x2048x16x32_S1x12x2048x32_d3 h_S_ : FVec Ideal S1x12x2048x32 .f32)
    (broadcastInDim S1x12x2048x32 ![] bcast_S_S1x12x2048x32 (constant S_ .f32 0x00000000#32))

/-- The mask: chosen or own block, and not after the query. -/
def mask (C : IVec S1x12x2048x32 1) (kb : IVec S1x2048 32) (qb : IVec S2048x1 32) : IVec S1x12x2048x2048 1 :=
  andi (ori (shapeCast _ (broadcastInDim S1x12x2048x32x64 ![0, 1, 2, 3] bcast_S1x12x2048x32_S1x12x2048x32x64_0_1_2_3 C)
        shapeCasts_S1x12x2048x32x64_S1x12x2048x2048)
      (broadcastInDim S1x12x2048x2048 ![0, 1, 2, 3] bcast_S1x1x2048x2048_S1x12x2048x2048_0_1_2_3
        (broadcastInDim S1x1x2048x2048 ![2, 3] bcast_S2048x2048_S1x1x2048x2048_2_3
          (cmpi .eq (broadcastInDim S2048x2048 ![0, 1] bcast_S1x2048_S2048x2048_0_1 kb)
            (broadcastInDim S2048x2048 ![0, 1] bcast_S2048x1_S2048x2048_0_1 qb)))))
    (broadcastInDim S1x12x2048x2048 ![0, 1, 2, 3] bcast_S1x1x2048x2048_S1x12x2048x2048_0_1_2_3
      (broadcastInDim S1x1x2048x2048 ![2, 3] bcast_S2048x2048_S1x1x2048x2048_2_3
        (cmpi .sle (broadcastInDim S2048x2048 ![0, 1] bcast_S1x2048_S2048x2048_0_1
            (broadcastInDim S1x2048 ![1] bcast_S2048_S1x2048_1 (iotaInDim S2048 32 0)))
          (broadcastInDim S2048x2048 ![0, 1] bcast_S2048x1_S2048x2048_0_1
            (broadcastInDim S2048x1 ![0] bcast_S2048_S2048x1_0 (iotaInDim S2048 32 0))))))

/-- The masked scores. -/
def scores (M : IVec S1x12x2048x2048 1) (Q K : FVec Ideal S1x12x2048x64 .f32) : FVec Ideal S1x12x2048x2048 .f32 :=
  select M
    (mulf (Host.dotGeneral dot_S1x12x2048x64_S1x12x2048x64_S1x12x2048x2048_3_3_2_2_01_01 none Q K)
      (broadcastInDim S1x12x2048x2048 ![] bcast_S_S1x12x2048x2048 (constant S_ .f32 0x3E000000#32)))
    (broadcastInDim S1x12x2048x2048 ![] bcast_S_S1x12x2048x2048 (constant S_ .f32 0xFF800000#32))

/-- The rows' maxima. -/
def maxima (s : FVec Ideal S1x12x2048x2048 .f32) : FVec Ideal S1x12x2048 .f32 :=
  Host.reduce FloatOps.maximumf s (constant S_ .f32 0xFF800000#32) reducesTo_S1x12x2048x2048_S1x12x2048_d3 h_S_

/-- The exponentials of the scores less their row's maximum. -/
def exps (s : FVec Ideal S1x12x2048x2048 .f32) (mx : FVec Ideal S1x12x2048 .f32) : FVec Ideal S1x12x2048x2048 .f32 :=
  Host.exp (subf s
    (broadcastInDim S1x12x2048x2048 ![0, 1, 2, 3] bcast_S1x12x2048x1_S1x12x2048x2048_0_1_2_3
      (broadcastInDim S1x12x2048x1 ![0, 1, 2] bcast_S1x12x2048_S1x12x2048x1_0_1_2
        (maximumf (broadcastInDim S1x12x2048 ![] bcast_S_S1x12x2048 (constant S_ .f32 0xFF800000#32)) mx))))

/-- The exponentials divided by their row's sum, times the values. -/
def weighted (e : FVec Ideal S1x12x2048x2048 .f32) (V : FVec Ideal S1x12x2048x64 .f32) : FVec Ideal S1x12x2048x64 .f32 :=
  Host.dotGeneral dot_S1x12x2048x2048_S1x12x2048x64_S1x12x2048x64_3_2_2_3_01_01 none
    (Host.divf e
      (broadcastInDim S1x12x2048x2048 ![0, 1, 2, 3] bcast_S1x12x2048x1_S1x12x2048x2048_0_1_2_3
        (broadcastInDim S1x12x2048x1 ![0, 1, 2] bcast_S1x12x2048_S1x12x2048x1_0_1_2
          (Host.reduceAdd e (constant S_ .f32 0x00000000#32) reducesTo_S1x12x2048x2048_S1x12x2048_d3 h_S_)))) V

/-- All masked scores of the arguments. -/
abbrev allScores : FVec Ideal S1x12x2048x2048 .f32 :=
  scores (mask (chosen (m ((c.tc : Thread nD τ).loc main_arg3))) keyBlocks queryBlocks)
    (m ((c.tc : Thread nD τ).loc main_arg0)) (m ((c.tc : Thread nD τ).loc main_arg1))

/-- The reference's result is the composition of these stages. -/
theorem result_stages :
    res_main_v39 m c
      = weighted (exps (allScores m c) (maxima (allScores m c))) (m ((c.tc : Thread nD τ).loc main_arg2)) := rfl

/-- A key's block number. -/
theorem keyBlocks_at (k : Fin 2048) : keyBlocks (ix2 0 k) = BitVec.ofNat 32 (k.val / 64) := by
  rw [← hostDiv_fin]
  pointwise [keyBlocks]
  rfl

/-- A query's block number. -/
theorem queryBlocks_at (q : Fin 2048) : queryBlocks (ix2 q 0) = BitVec.ofNat 32 (q.val / 64) := by
  rw [← hostDiv_fin]
  pointwise [queryBlocks]
  rfl

/-- Block `n` is chosen for a query when one of the sixteen indices is `n`. -/
theorem chosen_at (B : IVec S1x12x2048x16 32) (h : Fin 12) (q : Fin 2048) (n : Fin 32) :
    chosen B (ix4 0 h q n) = BitVec.ofBool (decide (∃ s, B (ix4 0 h q s) = BitVec.ofNat 32 n.val)) := by
  pointwise [chosen]
  simp only [uitofp_cmpi]
  congr 1
  exact decide_eq_decide.mpr (sum_indicator_pos fun s => B (ix4 0 h q s) = BitVec.ofNat 32 n.val)

/-- The mask's bit for a query and a key. -/
theorem mask_at (C : IVec S1x12x2048x32 1) (kb : IVec S1x2048 32) (qb : IVec S2048x1 32) (h : Fin 12) (q k : Fin 2048) :
    mask C kb qb (ix4 0 h q k)
      = IntOp.andi (IntOp.ori (C (ix4 0 h q ⟨k.val / 64, by omega⟩)) (IntOp.cmpi .eq (kb (ix2 0 k)) (qb (ix2 q 0))))
        (IntOp.cmpi .sle (BitVec.ofNat 32 k.val) (BitVec.ofNat 32 q.val)) := by
  pointwise [mask]

/-- The mask's bit says which keys the query sees. -/
theorem mask_allowed (B : IVec S1x12x2048x16 32) (h : Fin 12) (q k : Fin 2048) :
    mask (chosen B) keyBlocks queryBlocks (ix4 0 h q k)
      = BitVec.ofBool (decide (Allowed (fun s => B (ix4 0 h q s)) q.val k.val)) := by
  rw [mask_at, chosen_at, keyBlocks_at, queryBlocks_at, cmpi_eq_eq, cmpi_sle_ofNat (by omega) (by omega), ori_ofBool,
    andi_ofBool]
  congr 1
  rw [Bool.eq_iff_iff]
  simp only [Bool.and_eq_true, Bool.or_eq_true, decide_eq_true_eq]
  rw [ofNat_inj (by omega) (by omega)]
  rfl

/-- A masked score. -/
theorem scores_at (M : IVec S1x12x2048x2048 1) (Q K : FVec Ideal S1x12x2048x64 .f32) (h : Fin 12) (q k : Fin 2048) :
    scores M Q K (ix4 0 h q k)
      = (Scalar.select (M (ix4 0 h q k)) ((∑ d : Fin 64, Q (ix4 0 h q d) * K (ix4 0 h k d)) * Ideal.ofBits .f32 0x3E000000#32)
        (Ideal.ofBits .f32 0xFF800000#32) : EReal) := by
  pointwise [scores]

/-- A row's maximum. -/
theorem maxima_at (s : FVec Ideal S1x12x2048x2048 .f32) (h : Fin 12) (q : Fin 2048) :
    maxima s (ix3 0 h q) = (Finset.univ.sup fun k : Fin 2048 => (s (ix4 0 h q k) : EReal)) := by
  have e := Host.reduce_eq_fold (FloatOps.maximumf (F := Ideal) (φ := .f32)) s (constant S_ .f32 0xFF800000#32)
    reducesTo_S1x12x2048x2048_S1x12x2048_d3 h_S_ (ix3 0 h q)
  rw [Shape.ReducesTo.fold_fiber_r4_a3] at e
  rw [← fold_max_eq_sup, ← ofBits_neg_inf]
  exact e

/-- An exponential. -/
theorem exps_at (s : FVec Ideal S1x12x2048x2048 .f32) (mx : FVec Ideal S1x12x2048 .f32) (h : Fin 12) (q k : Fin 2048) :
    exps s mx (ix4 0 h q k) = Ideal.exp (s (ix4 0 h q k) - max (Ideal.ofBits .f32 0xFF800000#32) (mx (ix3 0 h q))) := by
  pointwise [exps]

/-- A weighted sum of values. -/
theorem weighted_at (e : FVec Ideal S1x12x2048x2048 .f32) (V : FVec Ideal S1x12x2048x64 .f32) (h : Fin 12) (q : Fin 2048)
    (d : Fin 64) :
    weighted e V (ix4 0 h q d)
      = (∑ k : Fin 2048, Ideal.div (e (ix4 0 h q k)) (∑ k' : Fin 2048, e (ix4 0 h q k')) * V (ix4 0 h k d) : EReal) := by
  pointwise [weighted]

/-- The reference's result at an index is the attention formula. -/
theorem result_at (h : Fin 12) (q : Fin 2048) (d : Fin 64) :
    (res_main_v39 m c : FVec Ideal S1x12x2048x64 .f32) (ix4 0 h q d)
      = attention (argQ m c h q) (argK m c h) (fun k => argV m c h k d) (argB m c h q) q := by
  rw [result_stages, weighted_at]
  simp only [exps_at, maxima_at, scores_at, mask_allowed, select_ofBool, decide_eq_true_eq, ofBits_neg_inf,
    max_eq_right bot_le]
  rfl

end Cert.ReferenceIdeal.At

end
-- ==== Proof.Equation.lean ====
/- The equation: where every query and key is finite, the idealized kernel's result array is the idealized reference's. -/
module

public import proofs.«01_k».proof.Pre_finite_scores
public import proofs.«01_k».proof.Proof.Array
public import proofs.«01_k».proof.Proof.Reference

@[expose] public section

set_option maxRecDepth 16384

noncomputable section

namespace Cert.Equation

open Idealize.ShloMosaic Idealize.ShloMosaic.TcCoe Idealize.SL.Sem
open Cert.Spec

/-! ### What the precondition says -/

/-- A number whose absolute value is below plus infinity is a real number. -/
theorem real_of_abs (x : EReal) (h : max x (-x) < ⊤) : ∃ a : ℝ, x = a := by
  induction x using EReal.rec with
  | bot => simp at h
  | top => simp at h
  | coe a => exact ⟨a, rfl⟩

/-- The precondition makes every entry of its first two arguments a real number. -/
theorem real_of_pre [Cert.Pre_finite_scores.Facts] (Q K V : FVec Ideal Pre_finite_scores.S1x12x2048x64 .f32)
    (B : IVec Pre_finite_scores.S1x12x2048x16 32)
    (h : Cert.Pre_finite_scores.fn (F := Ideal) Q K V B = fun _ => 1#1) (i : Pre_finite_scores.S1x12x2048x64.Idx) :
    (∃ a : ℝ, Q i = (a : EReal)) ∧ ∃ a : ℝ, K i = (a : EReal) := by
  have hi : BitVec.ofBool (decide (max (Q i) (-(Q i)) < Ideal.ofBits .f32 0x7F800000#32))
      &&& BitVec.ofBool (decide (max (K i) (-(K i)) < Ideal.ofBits .f32 0x7F800000#32)) = 1#1 := congrFun h i
  rw [ofBits_inf] at hi
  by_cases h1 : max (Q i) (-(Q i)) < (⊤ : EReal)
  · by_cases h2 : max (K i) (-(K i)) < (⊤ : EReal)
    · exact ⟨real_of_abs _ h1, real_of_abs _ h2⟩
    · simp [h2] at hi
  · simp [h1] at hi

/-! ### What finite queries and keys make of the scores -/

/-- The scaled product of real queries and keys is a real number. -/
theorem product_real (Q K : Fin 64 → EReal) (hQ : ∀ d, ∃ a : ℝ, Q d = a) (hK : ∀ d, ∃ a : ℝ, K d = a) :
    ∃ a : ℝ, (∑ d, Q d * K d) * eighth = a := by
  choose a ha using hQ
  choose b hb using hK
  refine ⟨(∑ d, a d * b d) * (1 / 8), ?_⟩
  simp only [ha, hb, ← EReal.coe_mul, Softmax.sum_coe, eighth_eq]

/-- No score is plus infinity. -/
theorem score_ne_top (Q : Fin 64 → EReal) (K : Fin 2048 → Fin 64 → EReal) (B : Fin 16 → BitVec 32) (q k : Fin 2048)
    (hQ : ∀ d, ∃ a : ℝ, Q d = a) (hK : ∀ k d, ∃ a : ℝ, K k d = a) : score Q K B q k ≠ ⊤ := by
  obtain ⟨a, ha⟩ := product_real Q (K k) hQ (hK k)
  unfold score
  split_ifs
  · rw [ha]; exact EReal.coe_ne_top a
  · exact bot_ne_top

/-- A query's score against its own key is not minus infinity. -/
theorem score_own (Q : Fin 64 → EReal) (K : Fin 2048 → Fin 64 → EReal) (B : Fin 16 → BitVec 32) (q : Fin 2048)
    (hQ : ∀ d, ∃ a : ℝ, Q d = a) (hK : ∀ k d, ∃ a : ℝ, K k d = a) : score Q K B q q ≠ ⊥ := by
  obtain ⟨a, ha⟩ := product_real Q (K q) hQ (hK q)
  unfold score
  rw [if_pos (show Allowed B q.val q.val from ⟨Or.inr rfl, le_rfl⟩), ha]
  exact EReal.coe_ne_bot a

/-! ### The two results -/

/-- The two results are equal entry by entry when the arguments agree and the queries and keys are finite. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    [Cert.Pre_finite_scores.Facts]
    (hpre : Cert.Pre_finite_scores.fn (F := Ideal)
      (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3)) = fun _ => 1#1)
    (e0 : (m' ((c.tc : Thread ReferenceIdeal.nD ReferenceIdeal.τ).loc ReferenceIdeal.main_arg0) : FVec Ideal KernelIdeal.S1x12x2048x64 .f32)
      = m ((c.tc : Thread KernelIdeal.nD KernelIdeal.τ).loc KernelIdeal.main_arg0))
    (e1 : (m' ((c.tc : Thread ReferenceIdeal.nD ReferenceIdeal.τ).loc ReferenceIdeal.main_arg1) : FVec Ideal KernelIdeal.S1x12x2048x64 .f32)
      = m ((c.tc : Thread KernelIdeal.nD KernelIdeal.τ).loc KernelIdeal.main_arg1))
    (e2 : (m' ((c.tc : Thread ReferenceIdeal.nD ReferenceIdeal.τ).loc ReferenceIdeal.main_arg2) : FVec Ideal KernelIdeal.S1x12x2048x64 .f32)
      = m ((c.tc : Thread KernelIdeal.nD KernelIdeal.τ).loc KernelIdeal.main_arg2))
    (e3 : (m' ((c.tc : Thread ReferenceIdeal.nD ReferenceIdeal.τ).loc ReferenceIdeal.main_arg3) : IVec KernelIdeal.S1x12x2048x16 32)
      = m ((c.tc : Thread KernelIdeal.nD KernelIdeal.τ).loc KernelIdeal.main_arg3)) :
    (ReferenceIdeal.Value.res_main_v39 m' c : FVec Ideal KernelIdeal.S1x12x2048x64 .f32)
      = shapeCast KernelIdeal.S1x12x2048x64
          ((KernelIdeal.Gen.dats m 0 c).arrAt 4 KernelIdeal.cfg0.N : KernelIdeal.S12x2048x64.Idx → EReal)
          KernelIdeal.Gen.facts.shapeCasts_S12x2048x64_S1x12x2048x64 := by
  have hQ : ∀ h q d, ∃ a : ℝ, KernelIdeal.Array.inQ m c h q d = a := fun h q d => (real_of_pre _ _ _ _ hpre (ix4 0 h q d)).1
  have hK : ∀ h q d, ∃ a : ℝ, KernelIdeal.Array.inK m c h q d = a := fun h q d => (real_of_pre _ _ _ _ hpre (ix4 0 h q d)).2
  funext y
  obtain ⟨h, q, d, rfl⟩ : ∃ (h : Fin 12) (q : Fin 2048) (d : Fin 64), y = ix4 0 h q d :=
    ⟨y 1, y 2, y 3, funext fun a => by
      fin_cases a
      · exact Subsingleton.elim (α := Fin 1) _ _
      · rfl
      · rfl
      · rfl⟩
  refine (ReferenceIdeal.At.result_at m' c h q d).trans ?_
  refine Eq.trans ?_ (KernelIdeal.Array.result_at m c
    (fun h q k => score_ne_top _ _ _ q k (hQ h q) (hK h)) (fun h q => ⟨q, score_own _ _ _ q (hQ h q) (hK h)⟩) h q d).symm
  unfold KernelIdeal.Array.inAttention ReferenceIdeal.At.argQ ReferenceIdeal.At.argK ReferenceIdeal.At.argV
    ReferenceIdeal.At.argB
  rw [e0, e1, e2, e3]

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import Idealize.ShloMosaic.Lib.Quiescent
public import Idealize.ShloMosaic.Lib.Claim

@[expose] public section

set_option maxRecDepth 16384

noncomputable section

namespace Cert.Proof

open Idealize.ShloMosaic Idealize.SL.Sem

/-- The one side condition of the precondition: a scalar broadcasts to the argument shape. -/
theorem preFacts : Cert.Pre_finite_scores.Facts := ⟨by decide⟩

/-- The kernel terminates, keeps its arguments, and leaves every semaphore at zero. -/
theorem kernelFrame : Cert.quiescent_Kernel (hKernel := Cert.Kernel.Gen.facts) :=
  fun m g _ => Cert.Kernel.Gen.frame m g

/-- The idealized kernel terminates, keeps its arguments, and leaves every semaphore at zero. -/
theorem idealFrame : Cert.quiescent_KernelIdeal (hKernelIdeal := Cert.KernelIdeal.Gen.facts) :=
  fun m g _ => Cert.KernelIdeal.Gen.frame m g

/-- The same under the precondition. -/
theorem idealFramePre : Cert.quiescent_KernelIdeal_pre_finite_scores
    (hKernelIdeal := Cert.KernelIdeal.Gen.facts) (hPre_finite_scores := preFacts) :=
  fun m g _ => Cert.KernelIdeal.Gen.frame m g

/-- The reference terminates, keeps its arguments, and (it has no semaphore) leaves every counter at zero. -/
theorem referenceFrame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The same under the precondition. -/
theorem referenceFramePre : Cert.quiescent_ReferenceIdeal_pre_finite_scores
    (hReferenceIdeal := Cert.ReferenceIdeal.Gen.facts) (hPre_finite_scores := preFacts) :=
  fun m g _ => (θ_run Cert.ReferenceIdeal.defs _ _).mono
    (fun r h => ⟨fun c => (h c).2, sem_eq_zero_of_no_sems (by decide) r.2⟩) (Cert.ReferenceIdeal.Value.run m g)

/-- The one rewrite between the kernel and its idealization: the mask constant is read as minus infinity. -/
theorem named : Cert.preserves_Kernel_KernelIdeal :=
  IdealRules.named_const.statement Cert.KernelIdeal.κ "mask" .f32 0xF149F2CA#32 ⊥ rfl

/-- All claims together. The last one pairs the two runs: the kernel's result is the reshaped output array, and the
    reference's result is equal to it. -/
theorem claim : Cert.Claim :=
  ⟨Cert.Kernel.Gen.facts, Cert.KernelIdeal.Gen.facts, Cert.ReferenceIdeal.Gen.facts, preFacts,
    kernelFrame, idealFrame, idealFramePre, referenceFrame, referenceFramePre, named, by
  intro m g m' g' hpre hagree
  refine ⟨fun c => shapeCast Cert.KernelIdeal.S1x12x2048x64
      ((Cert.KernelIdeal.Gen.dats m 0 c).arrAt 4 Cert.KernelIdeal.cfg0.N : Cert.KernelIdeal.S12x2048x64.Idx → EReal)
      Cert.KernelIdeal.Gen.facts.shapeCasts_S12x2048x64_S1x12x2048x64, Cert.KernelIdeal.Run.run m g, ?_⟩
  refine (θ_run Cert.ReferenceIdeal.defs _ _).mono (fun r h c => ⟨(h c).1.trans ?_, (h c).2⟩)
    (Cert.ReferenceIdeal.Value.run m' g')
  obtain ⟨e0, e1, e2, e3⟩ := hagree c
  haveI := preFacts
  exact Cert.Equation.result_eq m m' c (hpre c) e0 e1 e2 e3⟩

end Cert.Proof

end
